-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S256x128 : Shape := ⟨2, ![256, 128]⟩
abbrev S128 : Shape := ⟨1, ![128]⟩
abbrev S100000x128 : Shape := ⟨2, ![100000, 128]⟩
abbrev S16384 : Shape := ⟨1, ![16384]⟩
abbrev S512 : Shape := ⟨1, ![512]⟩
abbrev S4x128 : Shape := ⟨2, ![4, 128]⟩
abbrev S512x128 : Shape := ⟨2, ![512, 128]⟩
abbrev S_ : Shape := ⟨0, ![]⟩
abbrev S16 : Shape := ⟨1, ![16]⟩
abbrev S1x16 : Shape := ⟨2, ![1, 16]⟩
abbrev S128x128 : Shape := ⟨2, ![128, 128]⟩
abbrev S1x128 : Shape := ⟨2, ![1, 128]⟩
abbrev S2048x128 : Shape := ⟨2, ![2048, 128]⟩

abbrev nBuf : Table → Nat
  | .hbm => 17
  | .local .tc .vmem => 14
  | .local .scVector .vmem => 4
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S16384, .i32⟩
  | .hbm, ⟨8, _⟩ => ⟨S16384, .i32⟩
  | .hbm, ⟨9, _⟩ => ⟨S16384x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S16384x128, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S128x128, .f32⟩
  | .local .tc .vmem, ⟨7, _⟩ => ⟨S128x128, .f32⟩
  | .local .tc .vmem, ⟨8, _⟩ => ⟨S128x128, .f32⟩
  | .local .tc .vmem, ⟨9, _⟩ => ⟨S128x128, .f32⟩
  | .local .tc .vmem, ⟨10, _⟩ => ⟨S1x128, .f32⟩
  | .local .tc .vmem, ⟨11, _⟩ => ⟨S1x128, .f32⟩
  | .local .tc .vmem, ⟨12, _⟩ => ⟨S2048x128, .f32⟩
  | .local .tc .vmem, ⟨13, _⟩ => ⟨S2048x128, .f32⟩
  | .local .scVector .vmem, ⟨0, _⟩ => ⟨S512, .i32⟩
  | .local .scVector .vmem, ⟨1, _⟩ => ⟨S512, .i32⟩
  | .local .scVector .vmem, ⟨2, _⟩ => ⟨S4x128, .i32⟩
  | .local .scVector .vmem, ⟨3, _⟩ => ⟨S512x128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg7_scv : Ref sig .scVector := ⟨.hbm, 7, rfl⟩
abbrev main_arg8_scv : Ref sig .scVector := ⟨.hbm, 8, rfl⟩
abbrev main_arg6_scv : Ref sig .scVector := ⟨.hbm, 6, rfl⟩
abbrev main_v0_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg9_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_360_r2 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S256x128 : Shape := ⟨2, ![256, 128]⟩
abbrev S128 : Shape := ⟨1, ![128]⟩
abbrev S100000x128 : Shape := ⟨2, ![100000, 128]⟩
abbrev S16384 : Shape := ⟨1, ![16384]⟩
abbrev S16384x256 : Shape := ⟨2, ![16384, 256]⟩
abbrev S1x128 : Shape := ⟨2, ![1, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S16384, .i32⟩
  | .hbm, ⟨8, _⟩ => ⟨S16384, .i32⟩
  | .hbm, ⟨9, _⟩ => ⟨S16384x256, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S_, .i1⟩
  | .hbm, ⟨37, _⟩ => ⟨S16384, .i1⟩
  | .hbm, ⟨38, _⟩ => ⟨S16384, .i1⟩
  | .hbm, ⟨39, _⟩ => ⟨S16384, .i1⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S1, .i32⟩
  | .hbm, ⟨52, _⟩ => ⟨S_, .i32⟩
  | .hbm, ⟨53, _⟩ => ⟨S16384x1, .i32⟩
  | .hbm, ⟨54, _⟩ => ⟨S16384x1, .i1⟩
  | .hbm, ⟨55, _⟩ => ⟨S1x1, .i32⟩
  | .hbm, ⟨56, _⟩ => ⟨S16384x1, .i32⟩
  | .hbm, ⟨57, _⟩ => ⟨S16384x1, .i1⟩
  | .hbm, ⟨58, _⟩ => ⟨S16384x1, .i1⟩
  | .hbm, ⟨59, _⟩ => ⟨S_, .i1⟩
  | .hbm, ⟨60, _⟩ => ⟨S16384, .i1⟩
  | .hbm, ⟨61, _⟩ => ⟨S16384x128, .f32⟩
  | .hbm, ⟨62, _⟩ => ⟨S16384x128, .i1⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x256, .f32⟩
  | .hbm, ⟨67, _⟩ => ⟨S16384x128, .f32⟩
  | .hbm, ⟨68, _⟩ => ⟨S1x128, .f32⟩
  | .hbm, ⟨69, _⟩ => ⟨S16384x128, .f32⟩
  | .hbm, ⟨70, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v9 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩

abbrev nD : Nat := 1
abbrev τ : Topo := Topo.v7x

variable {F : FTy → Type} [FloatOps F]
-- ==== Proof.GatherBatch.lean ====
module

public import proofs.«01_k».proof.Defs
public import Idealize.ShloMosaic.Lib.Batch
public import Idealize.ShloMosaic.Lib.SparseCore.Stream
public import Idealize.ShloMosaic.Lib.SparseCore.Ops

/-!
# Several row gathers in flight on one DMA semaphore

The kernel starts four gathers on the same semaphore before it waits for any of them. The rows of all four are
taken together as one batch of equal transfers on that cell: a gather of `o` rows is `o` consecutive members of
the batch. This module gives the rule of starting such a gather and the lemma that puts its rows together again.
-/

@[expose] public section

noncomputable section

namespace Cert.Proof.GatherBatch

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- A family over the transfers from `k` on is its first `o` members beside the members from `k + o` on. -/
theorem pending_take {M : Type} [URA M] {n : ℕ} (Φ : Fin n → sProp M) (k o : ℕ) (h : k + o ≤ n) :
    bigSep (Transfers.pending (n := n) k) Φ
      = iprop(bigSep Finset.univ (fun j : Fin o => Φ ⟨k + j.1, by have := j.2; omega⟩) ∗ bigSep (Transfers.pending (n := n) (k + o)) Φ) := by
  let e : Fin o ↪ Fin n := ⟨fun j => ⟨k + j.1, by have := j.2; omega⟩, fun a b hab => by
    have := congrArg Fin.val hab; exact Fin.ext (by simpa using this)⟩
  have hcut : Transfers.pending (n := n) k = (Finset.univ.map e) ∪ Transfers.pending (n := n) (k + o) := by
    ext t
    simp only [Transfers.pending, Finset.mem_union, Finset.mem_map, Finset.mem_univ, true_and, Finset.mem_filter]
    constructor
    · intro ht
      by_cases h' : k + o ≤ t.1
      · exact Or.inr h'
      · exact Or.inl ⟨⟨t.1 - k, by omega⟩, Fin.ext (by change k + (t.1 - k) = t.1; omega)⟩
    · rintro (⟨j, rfl⟩ | ht)
      · exact Nat.le_add_right _ _
      · omega
  have hdisj : Disjoint (Finset.univ.map e) (Transfers.pending (n := n) (k + o)) := by
    rw [Finset.disjoint_left]
    intro t ht ht'
    obtain ⟨j, -, rfl⟩ := Finset.mem_map.mp ht
    have h2 : k + o ≤ k + j.1 := (Finset.mem_filter.mp ht').2
    have := j.2; omega
  rw [hcut, BI.bigSep_union hdisj, BI.bigSep_map]; rfl

variable (EC : UEmb Counters (MT nD τ sig Ix (Elt F) Name U Lvl)) (𝒱 : Variants) (c : Thread nD τ) (bd : Option 𝒱.V)
variable {sp : Space} {s₀ s si : Shape} {e : EltTy} {a : Nat}

/-- The contents of row `j` of a gather: the source's row the list names for it. -/
def rowVal (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- What row `j` of a gather brings when it has landed: the destination's row written with the source row its list
    entry names, the entry's share of the list, and the row's piece of the source's share. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (rowVal c src hg fs r j) Finset.univ))
      ∗ (offs.view.loc c ↦[{offs.view.emb (si.rowMajor.symm (j.cast hn.symm))}]{qo} fo))
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowBack c src dst hg offs hn ho q qo fs fd fo r j) := by
  unfold rowBack; infer_instance

/-- The list's entries in row-major order are all of its elements, each once. -/
theorem entry_bijective {o : ℕ} (hn : si.numel = o) : Function.Bijective fun j : Fin o => si.rowMajor.symm (j.cast hn.symm) :=
  si.rowMajor.symm.bijective.comp (finCongr hn.symm).bijective

/-- The rows of a gather, all landed, are the destination written with the gathered rows, the source's share and the
    list's share. -/
theorem rowBack_all (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowBack (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hrow : ∀ j i, rowVal c src hg fs r j i
      = gatherPayload hg (src.view.read (Elt F) fs) r ((s.rowRect hg.axis' j).emb i) := fun j i => by
    rw [rowVal, gatherPayload, Shape.Gathers.idx_rowRect_emb]
  unfold rowBack
  iintro H
  ihave H := Transfers.bigSep_sep_out _ _ _ $$ H
  icases H with ⟨H, Hs⟩
  ihave H := Transfers.bigSep_sep_out _ _ _ $$ H
  icases H with ⟨Hd, Ho⟩
  isplitl [Hd]
  · iapply (pointsTo_rows_write c dst.view hg.axis' fd _ _ hrow) $$ Hd
  isplitl [Hs]
  · iapply (Entails.of_eq (pointsTo_piecesOf (src.view.set) fs ho q).symm) $$ Hs
  · iapply (Entails.of_eq (pointsTo_entries c offs.view _ (entry_bijective hn) qo fo).symm) $$ Ho

variable {defs : Defs nD τ sig (Elt F) Λ} {α : Type} {Q : α → sProp (MT nD τ sig Ix (Elt F) Name U Lvl)}

/-- Starting a gather whose rows are the transfers `k₀ … k₀ + o - 1` of a batch on its semaphore: the issuer gives a
    share of the source, the destination and a share of the list with every entry in range, and goes on with the batch
    `o` transfers further. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {k₀ u N : ℕ} (ι : Ix)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k₀ + s.size hg.axis' ≤ n) (hu : u ≤ k₀ * N)
    (hD : ∀ j : Fin (s.size hg.axis'), rowBack c src dst hg offs hn ho q qo fs fd fo (rows (offs.view.read (Elt F) fo) hn hin) j
      ⊢ D ⟨k₀ + j.1, by have := j.2; omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  set S : Stream nD τ sig (Elt F) :=
    Stream.issued c offs.view hn sem (fun j w => (rowOf (s₀.size hg.axis) w).map (gatherRow c src dst hg sem hsrc he hsp hr j)) 0 with hS
  set r := rows (offs.view.read (Elt F) fo) hn hin with hrdef
  have hagree : S.RowsAgree := by
    intro j x x' ρ ρ' h h'
    rcases Option.map_eq_some_iff.mp h with ⟨_, _, rfl⟩
    rcases Option.map_eq_some_iff.mp h' with ⟨_, _, rfl⟩
    rfl
  have hserved : ∀ j, S.row j (S.word fo j) = some (gatherRow c src dst hg sem hsrc he hsp hr j (r j)) := fun j => by
    change (rowOf (s₀.size hg.axis) (offs.view.read (Elt F) fo (S.entry j))).map _ = _
    rw [rowOf_of_lt (hin _)]; rfl
  have htotal : ∑ j, (gatherRow c src dst hg sem hsrc he hsp hr j (r j) : RowDma τ sig (Elt F) c.2 sem).dst.view.dmaCredit
      = s.size hg.axis' * N := by
    rw [Finset.sum_congr rfl (fun j _ => hN j), Finset.sum_const, Finset.card_univ, Fintype.card_fin, smul_eq_mul]
  iintro ⟨Hs, Hd, Ho, HB⟩ Hk
  unfold Transfers.Batch
  icases HB with ⟨%γ, %γ₀, %κ, #Hinv, Hpend, Hu, Hcred⟩
  ihave Hpend := (Entails.of_eq (pending_take (fun t => count EC (γ t) 0) k₀ (s.size hg.axis') hk)) $$ Hpend
  icases Hpend with ⟨Hmine, Hlater⟩
  ihave Hd := (Entails.of_eq (pointsTo_rows c dst.view hg.axis' fullShare fd)) $$ Hd
  ihave Ho := (Entails.of_eq (pointsTo_entries c offs.view _ (entry_bijective hn) qo fo)) $$ Ho
  ihave Hs := (Entails.of_eq (pointsTo_piecesOf (src.view.set) fs ho q)) $$ Hs
  iapply (wp_enqueueIndirectDma 𝒱 c bd Set.univ (qo := qo) (fo := fo)
    (rd := fun j => gatherRow c src dst hg sem hsrc he hsp hr j (r j)) ι _ hagree hserved htotal) $$ [Hd Ho Hs Hmine]
  · have hone : ∀ j : Fin (s.size hg.axis'), iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (si.rowMajor.symm (j.cast hn.symm))}]{qo} fo))
            ∗ (src.view.loc c ↦[src.view.set]{pieceOf q _ ho j} fs)) ∗ count EC (γ ⟨k₀ + j.1, by have := j.2; omega⟩) 0))
        ⊢ iprop(S.heldEntry qo fo j ∗ (S.heldEntry qo fo j -∗ rowRes c (gatherRow c src dst hg sem hsrc he hsp hr j (r j)))) := fun j => by
      iintro ⟨#Hinv, ⟨⟨Hrow, Hent⟩, Hpc⟩, Hc⟩
      isplitl [Hent]
      · iexact Hent
      iintro Hent
      unfold rowRes
      iexists pieceOf q _ ho j, fs, iprop((dst.view.loc c ↦[(dst.view.slice (s.rowRect hg.axis' j)).set]{fullShare}
            ((dst.view.slice (s.rowRect hg.axis' j)).write (Elt F) fd (rowVal c src hg fs r j) Finset.univ))
          ∗ S.heldEntry qo fo j)
      isplitl [Hpc]
      · iexact Hpc
      isplitl [Hrow Hent]
      · iapply writeUpdate_frame
        isplitl [Hrow]
        · iapply (pointsTo_writeUpdate c (v := dst.view.slice (s.rowRect hg.axis' j)) subset_rfl) $$ Hrow
        · iexact Hent
      · have hcr : (gatherRow c src dst hg sem hsrc he hsp hr j (r j) : RowDma τ sig (Elt F) c.2 sem).dst.view.amount (SemLoc.dma sem) = N := hN j
        rw [hcr]
        iapply (Transfers.batch_creditUpdate EC (γ := γ) (γ₀ := γ₀) ⟨k₀ + j.1, by have := j.2; omega⟩ (hD j))
        isplitr
        · iexact Hinv
        · iexact Hc
    unfold Stream.res
    ihave H := Transfers.bigSep_sep_in _ _ _ $$ [Hd Ho]
    · isplitl [Hd] <;> iassumption
    ihave H := Transfers.bigSep_sep_in _ _ _ $$ [H Hs]
    · isplitl [H] <;> iassumption
    ihave H := Transfers.bigSep_sep_in _ _ _ $$ [H Hmine]
    · isplitl [H] <;> iassumption
    iapply (Transfers.bigSep_mono_pers Finset.univ _ _ _ fun j _ => hone j)
    isplitr
    · iexact Hinv
    · iexact H
  · iintro Hnew
    iapply Hk
    iexists γ, γ₀, κ
    isplitr
    · iexact Hinv
    isplitl [Hlater]
    · iexact Hlater
    isplitl [Hu]
    · iexact Hu
    have hsum : (k₀ + s.size hg.axis') * N - u = (k₀ * N - u) + s.size hg.axis' * N := by
      rw [Nat.add_mul]; omega
    rw [hsum, ← tallyAt_add]
    icombine Hcred Hnew as H
    iexact H

end Cert.Proof.GatherBatch
-- ==== Proof.Keys.lean ====
module

public import proofs.«01_k».proof.Defs
public import Idealize.ShloMosaic.Lib.Pipeline.Value
public import Idealize.ShloMosaic.Lib.ValueLayout
public import proofs.«01_k».proof.Proof.Gen.KernelIdeal
public import proofs.«01_k».proof.Proof.Gen.KernelIdeal.Skeleton

/-!
# The table row of a pair of identifiers

Kernel and reference number the memory's rows alike: `(31 * src + dst) mod 100000`, on 32-bit words that wrap, with
the remainder of the sign of the divisor. This module states that row number on one pair of words, shows that it is
always a row of the table, and that one vector of the kernel's key computation is sixteen of them.
-/

@[expose] public section

noncomputable section

namespace Cert.Proof.Keys

open Idealize.ShloMosaic Idealize.ShloMosaic.ValueIdx
open Cert.KernelIdeal Cert.KernelIdeal.Gen

/-- The row number of a pair: the wrapped word `31 * a + b`, its signed remainder by 100000, one more period added when
    that is negative. -/
def keyOf (a b : BitVec 32) : BitVec 32 :=
  if ((a * 31#32 + b).srem 100000#32).slt 0#32 then (a * 31#32 + b).srem 100000#32 + 100000#32
  else (a * 31#32 + b).srem 100000#32

/-- The signed remainder of any word by 100000 lies strictly between -100000 and 100000. -/
theorem srem_range (z : BitVec 32) : -100000 < (z.srem 100000#32).toInt ∧ (z.srem 100000#32).toInt < 100000 := by
  rw [BitVec.toInt_srem]
  have h : (100000#32 : BitVec 32).toInt = 100000 := by decide
  rw [h]
  constructor
  · have := Int.lt_tmod_of_pos z.toInt (by decide : (0:ℤ) < 100000)
    simpa using this
  · exact Int.tmod_lt_of_pos _ (by decide)

/-- Every pair's row number is a row of the table. -/
theorem keyOf_lt (a b : BitVec 32) : (keyOf a b).toNat < 100000 := by
  obtain ⟨h1, h2⟩ := srem_range (a * 31#32 + b)
  unfold keyOf
  generalize (a * 31#32 + b).srem 100000#32 = r at h1 h2 ⊢
  split
  · next h =>
    rw [BitVec.slt_eq_decide, decide_eq_true_eq] at h
    have hz : (0#32 : BitVec 32).toInt = 0 := by decide
    rw [hz] at h
    rw [BitVec.toNat_add]
    rw [BitVec.toInt_eq_toNat_cond] at h1 h2 h
    have h0 : (100000#32 : BitVec 32).toNat = 100000 := by decide
    rw [h0]
    have := r.isLt
    split at h <;> omega
  · next h =>
    rw [BitVec.slt_eq_decide, decide_eq_true_eq] at h
    have hz : (0#32 : BitVec 32).toInt = 0 := by decide
    rw [hz] at h
    rw [BitVec.toInt_eq_toNat_cond] at h1 h2 h
    have := r.isLt
    split at h <;> omega

/-- A row number is non-negative as a signed word. -/
theorem keyOf_toInt (a b : BitVec 32) : (keyOf a b).toInt = ((keyOf a b).toNat : ℤ) := by
  have := keyOf_lt a b
  rw [BitVec.toInt_eq_toNat_cond, if_pos (by omega)]

/-- One lane of the floor remainder as the programs spell it, on any unit: comparisons of signs decide whether the
    divisor is added. -/
theorem floorMod_lane (u : ArithUnit) (z : BitVec 32) :
    Scalar.select (IntOp.andi (IntOp.xori (IntOp.cmpi .slt (IntOp.remsi u z 100000#32) 0#32) (IntOp.cmpi .slt 100000#32 0#32))
        (IntOp.cmpi .ne (IntOp.remsi u z 100000#32) 0#32))
      (IntOp.addi (IntOp.remsi u z 100000#32) 100000#32) (IntOp.remsi u z 100000#32)
      = if (z.srem 100000#32).slt 0#32 then z.srem 100000#32 + 100000#32 else z.srem 100000#32 := by
  have hr : IntOp.remsi u z 100000#32 = z.srem 100000#32 := by
    unfold IntOp.remsi
    rw [if_neg]
    rintro (h | ⟨-, h⟩)
    · exact absurd h (by decide)
    · exact absurd h (by decide)
  rw [hr]
  generalize z.srem 100000#32 = r
  have hn : IntOp.cmpi .slt (100000#32 : BitVec 32) 0#32 = 0#1 := by decide
  rw [hn]
  by_cases h : r.slt 0#32 = true
  · have h1 : IntOp.cmpi .slt r 0#32 = 1#1 := by simp [IntOp.cmpi, h]
    have hne : IntOp.cmpi .ne r 0#32 = 1#1 := by
      have : r ≠ 0#32 := by rintro rfl; exact absurd h (by decide)
      change BitVec.ofBool (r != 0#32) = 1#1
      rw [bne_iff_ne.mpr this]; rfl
    rw [h1, hne, if_pos h]
    rfl
  · have h1 : IntOp.cmpi .slt r 0#32 = 0#1 := by
      have : r.slt 0#32 = false := by simpa using h
      simp [IntOp.cmpi, this]
    rw [h1, if_neg h]
    have : IntOp.andi (IntOp.xori 0#1 0#1) (IntOp.cmpi .ne r 0#32) = 0#1 := by
      unfold IntOp.andi IntOp.xori; simp
    rw [this]; rfl

variable {F : FTy → Type} [FloatOps F]

/-- One vector of the kernel's keys: lane `i` is the row number of lane `i` of the two identifier vectors. -/
theorem pay_apply (a b : Vec F S16 .i32) (u : Fin 1) (i : Fin 16) :
    k0_pay1 (F := F) a b (ix2 u i) = keyOf (a (ix1 i)) (b (ix1 i)) := by
  unfold k0_pay1
  refine (shapeCast_a_1a_apply _ _ u i).trans ?_
  rw [shapeCast_self, shapeCast_self]
  exact floorMod_lane _ _

end Cert.Proof.Keys
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.GatherBatch
public import proofs.«01_k».proof.Proof.Keys

/-!
# The gather call as the launch theorem sees it

The program's SparseCore configuration and resource algebra, the pieces of the arrays each of the 32 tiles works on,
and what the call and its tiles are handed and hand back: a tile gets its 512 entries of both identifier lists, a
share of the table and its 512 rows of the result, and leaves those rows equal to the rows of the table the lists name.
-/

@[expose] public section

noncomputable section

namespace Cert.Proof.Setup

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Keys (keyOf keyOf_lt)

variable {F : FTy → Type}

/-! ## The program's parts -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on the semaphores the call uses. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The region's staging cells keep their rounds apart from the call's handshakes. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The region's rounds, inside the right half of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The launch's algebra element deals the handshakes their part and the region its own. -/
theorem ownU_split (a : UH) (b : UP) :
    (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-! ## The arrays -/

variable (m : (ℓ : Loc nD τ sig) → Buf (Elt F) ℓ) (ρ : Dev nD → PrngReg)

abbrev srcLoc (d : Dev nD) : Loc nD τ sig := (SparseCore.T d).loc main_arg7
abbrev dstLoc (d : Dev nD) : Loc nD τ sig := (SparseCore.T d).loc main_arg8
abbrev memLoc (d : Dev nD) : Loc nD τ sig := (SparseCore.T d).loc main_arg6
abbrev hisLoc (d : Dev nD) : Loc nD τ sig := (SparseCore.T d).loc main_v0

/-- The gathered array: row `r` is the table's row numbered by the pair `r` of identifiers. -/
def hist (src dst : S16384.Idx → BitVec 32) (tab : S100000x128.Idx → Elt F .f32) : S16384x128.Idx → Elt F .f32 :=
  fun x => tab (ix2 ⟨(keyOf (src (ix1 (x 0))) (dst (ix1 (x 0)))).toNat, keyOf_lt _ _⟩ (x 1))

/-- The gathered array of the launch memory. -/
def histOf (d : Dev nD) : Buf (Elt F) (hisLoc d) := hist (F := F) (m (srcLoc d)) (m (dstLoc d)) (m (memLoc d))

/-! ## A tile's pieces -/

/-- The ids divide into 32 tiles. -/
theorem ids_div : 32 ∣ S16384.size 0 := ⟨512, rfl⟩
/-- The gathered rows divide into 32 tiles. -/
theorem his_div : 32 ∣ S16384x128.size 0 := ⟨512, rfl⟩
abbrev idsRect (w : Fin 32) : Rect S16384 := Rect.part (s := S16384) (a₀ := 0) ids_div w
abbrev hisRect (w : Fin 32) : Rect S16384x128 := Rect.part (s := S16384x128) (a₀ := 0) his_div w
abbrev idsSet (w : Fin 32) : Finset S16384.Idx := (idsRect w).set
abbrev hisSet (w : Fin 32) : Finset S16384x128.Idx := (hisRect w).set

/-- The share of the table tile `w` reads through. -/
abbrev memShare (w : Fin 32) : PosShare TreeShare := pieceOf fullShare 32 (by decide) w

/-- What tile `w` is handed: its entries of the two lists, its share of the table, its rows of the result. -/
abbrev goRes (d : Dev nD) (w : Fin 32) : sProp 𝕄 :=
  iprop((srcLoc d ↦[idsSet w]{fullShare} m (srcLoc d)) ∗ (dstLoc d ↦[idsSet w]{fullShare} m (dstLoc d))
    ∗ (memLoc d ↦{memShare w} m (memLoc d)) ∗ (hisLoc d ↦[hisSet w]{fullShare} m (hisLoc d)))

/-- What tile `w` hands back: the same, its rows of the result those of the gathered array. -/
abbrev tdRes (d : Dev nD) (w : Fin 32) : sProp 𝕄 :=
  iprop((srcLoc d ↦[idsSet w]{fullShare} m (srcLoc d)) ∗ (dstLoc d ↦[idsSet w]{fullShare} m (dstLoc d))
    ∗ (memLoc d ↦{memShare w} m (memLoc d)) ∗ (hisLoc d ↦[hisSet w]{fullShare} histOf m d))

/-- The number of subcore `i` of SparseCore `c` among the 32 tiles. -/
def tileNo (c i : ℕ) (hc : c < 2) (hi : i < 16) : Fin 32 := ⟨c + 2 * i, by omega⟩

/-- The number of a tile of the call. -/
abbrev tileOf (c : Fin ((K (F := F)).nCore 0)) (i : Fin ((K (F := F)).nSub 0)) : Fin 32 := tileNo c.1 i.1 c.2 i.2

/-- What the call carries: each SparseCore its tiles' pieces, each tile its own. -/
def P : (K (F := F)).Pay (nD := nD) (Val := Elt F) (Name := ℕ) (U := UU) where
  st := fun q d c => match q with | 0 => bigSep Finset.univ fun i : Fin ((K (F := F)).nSub 0) => goRes m d (tileOf c i)
  dn := fun q d c => match q with | 0 => bigSep Finset.univ fun i : Fin ((K (F := F)).nSub 0) => tdRes m d (tileOf c i)
  go := fun q d c i => match q with | 0 => goRes m d (tileOf c i)
  td := fun q d c i => match q with | 0 => tdRes m d (tileOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goRes m d (tileOf c i)))
  dn q d c := match q with
    | 0 => (inferInstance : BI.Storable (upEmb : UEmb _ 𝕄) (bigSep Finset.univ fun i : Fin ((K (F := F)).nSub 0) => tdRes m d (tileOf c i)))
  go q d c i := match q with
    | 0 => (inferInstance : BI.Storable (upEmb : UEmb _ 𝕄) (goRes m d (tileOf c i)))
  td q d c i := match q with
    | 0 => (inferInstance : BI.Storable (upEmb : UEmb _ 𝕄) (tdRes m d (tileOf c i)))

/-- A SparseCore's pieces are its tiles' pieces, before and after. -/
theorem vecSplit : (K (F := F)).VecSplit' (P m) 0 := by
  intro d c
  change (bigSep Finset.univ fun i : Fin ((K (F := F)).nSub 0) => goRes m d (tileOf c i)) ⊢ |={Set.univ}=> iprop(
      (bigSep Finset.univ fun i : Fin ((K (F := F)).nSub 0) => goRes m d (tileOf c i))
      ∗ ((bigSep Finset.univ fun i : Fin ((K (F := F)).nSub 0) => tdRes m d (tileOf c i))
          -∗ (bigSep Finset.univ fun i : Fin ((K (F := F)).nSub 0) => tdRes m d (tileOf c i))))
  iintro H; imodintro
  isplitl [H]
  · iexact H
  · iintro H; iexact H

/-! ## The whole arrays are the tiles' pieces -/

/-- Over the SparseCores and their subcores is over the 32 tiles. -/
theorem bigSep_tiles (Φ : Fin 32 → sProp 𝕄) :
    (bigSep Finset.univ fun c : Fin ((K (F := F)).nCore 0) => bigSep Finset.univ fun i : Fin ((K (F := F)).nSub 0) => Φ (tileOf c i))
      = bigSep Finset.univ Φ := by
  rw [bigSep_univ_equiv (finProdFinEquiv : Fin 16 × Fin 2 ≃ Fin (16 * 2)) Φ, bigSep_univ_prod, bigSep_univ_comm]
  rfl

/-- The source ids are their 32 tiles' pieces. -/
theorem src_tiles (d : Dev nD) (f : Buf (Elt F) (srcLoc d)) :
    (srcLoc d ↦{fullShare} f : sProp 𝕄) = bigSep Finset.univ fun w : Fin 32 => srcLoc d ↦[idsSet w]{fullShare} f := by
  rw [← pointsTo_biUnion Finset.univ (ℓ := srcLoc d) idsSet (fun _ _ _ _ h => Rect.part_disjoint ids_div h), Rect.biUnion_part ids_div]

/-- The destination ids are their 32 tiles' pieces. -/
theorem dst_tiles (d : Dev nD) (f : Buf (Elt F) (dstLoc d)) :
    (dstLoc d ↦{fullShare} f : sProp 𝕄) = bigSep Finset.univ fun w : Fin 32 => dstLoc d ↦[idsSet w]{fullShare} f := by
  rw [← pointsTo_biUnion Finset.univ (ℓ := dstLoc d) idsSet (fun _ _ _ _ h => Rect.part_disjoint ids_div h), Rect.biUnion_part ids_div]

/-- The gathered rows are their 32 tiles' pieces. -/
theorem his_tiles (d : Dev nD) (f : Buf (Elt F) (hisLoc d)) :
    (hisLoc d ↦{fullShare} f : sProp 𝕄) = bigSep Finset.univ fun w : Fin 32 => hisLoc d ↦[hisSet w]{fullShare} f := by
  rw [← pointsTo_biUnion Finset.univ (ℓ := hisLoc d) hisSet (fun _ _ _ _ h => Rect.part_disjoint his_div h), Rect.biUnion_part his_div]

/-- The memory table is 32 read shares, one a tile. -/
theorem mem_tiles (d : Dev nD) (f : Buf (Elt F) (memLoc d)) :
    (memLoc d ↦{fullShare} f : sProp 𝕄) = bigSep Finset.univ fun w : Fin 32 => memLoc d ↦{memShare w} f :=
  pointsTo_piecesOf Finset.univ f (by decide) fullShare

/-- The four arrays whole are the tiles' pieces of them, whatever the result's contents. -/
theorem arrays_tiles (d : Dev nD) (f : Buf (Elt F) (hisLoc d)) :
    (iprop((srcLoc d ↦{fullShare} m (srcLoc d)) ∗ (dstLoc d ↦{fullShare} m (dstLoc d)) ∗ (memLoc d ↦{fullShare} m (memLoc d)) ∗ hisLoc d ↦{fullShare} f) : sProp 𝕄)
      = bigSep Finset.univ fun w : Fin 32 => iprop((srcLoc d ↦[idsSet w]{fullShare} m (srcLoc d)) ∗ (dstLoc d ↦[idsSet w]{fullShare} m (dstLoc d))
    ∗ (memLoc d ↦{memShare w} m (memLoc d)) ∗ (hisLoc d ↦[hisSet w]{fullShare} f)) := by
  rw [src_tiles, dst_tiles, mem_tiles, his_tiles, bigSep_sep', bigSep_sep', bigSep_sep']

end Cert.Proof.Setup
-- ==== Proof.TilePieces.lean ====
module

public import proofs.«01_k».proof.Proof.Setup

/-!
# One tile's run

A tile fetches its identifiers, computes its 512 row numbers, starts the four gathers of 128 rows each, waits for all
of them and copies the rows out.
-/

@[expose] public section

noncomputable section

namespace Cert.Proof.TilePieces

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup
open Cert.Proof.Keys (keyOf keyOf_lt pay_apply)

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The tile and the arrays as it addresses them -/

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
/-- The tile's number. -/
abbrev wL (L : grid0.Coords) : Fin 32 := tileNo (L 0).1 (L 1).1 (L 0).2 (L 1).2

abbrev srcV : Memref sig .scVector .hbm S16384 .i32 := Memref.whole main_arg7_scv
abbrev dstV : Memref sig .scVector .hbm S16384 .i32 := Memref.whole main_arg8_scv
abbrev memV : Memref sig .scVector .hbm S100000x128 .f32 := Memref.whole main_arg6_scv
abbrev hisV : Memref sig .scVector .hbm S16384x128 .f32 := Memref.whole main_v0_scv
abbrev aV : Memref sig .scVector .vmem S512 .i32 := Memref.whole cc0_scratch0
abbrev bV : Memref sig .scVector .vmem S512 .i32 := Memref.whole cc0_scratch1
abbrev keyV : Memref sig .scVector .vmem S4x128 .i32 := Memref.whole cc0_scratch2
abbrev rowV : Memref sig .scVector .vmem S512x128 .f32 := Memref.whole cc0_scratch3

abbrev idsRectK (L : grid0.Coords) : Rect S16384 := Rect.unit (s := S16384) (k0_off1 L) S512.size (k0_off1_inb L)
abbrev hisRectK (L : grid0.Coords) : Rect S16384x128 := Rect.unit (s := S16384x128) (k0_off2 L) S512x128.size (k0_off2_inb L)
abbrev srcK (L : grid0.Coords) : Memref sig .scVector .hbm S512 .i32 := (srcV).slice (idsRectK L) (fun _ => rfl)
abbrev dstK (L : grid0.Coords) : Memref sig .scVector .hbm S512 .i32 := (dstV).slice (idsRectK L) (fun _ => rfl)
abbrev hisK (L : grid0.Coords) : Memref sig .scVector .hbm S512x128 .f32 := (hisV).slice (hisRectK L) (fun _ => rfl)

/-- The identifiers a tile addresses are its part of the list. -/
theorem idsRectK_eq : idsRectK L = idsRect (wL L) := by
  unfold idsRectK idsRect Rect.part Rect.block
  congr 1 <;> funext a
  · rw [k0_off1_eq]
    match a with
    | 0 => simp [Shape.partIx, Shape.partSize, wL, tileNo]; omega
  · match a with
    | 0 => simp [Shape.partSize]

/-- The rows of the result a tile addresses are its part of it. -/
theorem hisRectK_eq : hisRectK L = hisRect (wL L) := by
  unfold hisRectK hisRect Rect.part Rect.block
  congr 1 <;> funext a
  · rw [k0_off2_eq]
    match a with
    | 0 => simp [Shape.partIx, Shape.partSize, wL, tileNo]; omega
    | 1 => simp [Shape.partIx, Shape.partSize]
  · match a with
    | 0 => simp [Shape.partSize]
    | 1 => simp [Shape.partSize]

/-- The tile's source ids as a set of entries. -/
theorem set_srcK : (srcK L).view.set = idsSet (wL L) := by
  change ((View.whole (main_arg7_scv : Ref sig .scVector)).slice (idsRectK L)).set = _
  rw [View.set_slice, idsRectK_eq]; exact Finset.map_refl
/-- The tile's destination ids as a set of entries. -/
theorem set_dstK : (dstK L).view.set = idsSet (wL L) := by
  change ((View.whole (main_arg8_scv : Ref sig .scVector)).slice (idsRectK L)).set = _
  rw [View.set_slice, idsRectK_eq]; exact Finset.map_refl
/-- The tile's result rows as a set of entries. -/
theorem set_hisK : (hisK L).view.set = hisSet (wL L) := by
  change ((View.whole (main_v0_scv : Ref sig .scVector)).slice (hisRectK L)).set = _
  rw [View.set_slice, hisRectK_eq]; exact Finset.map_refl

/-- Owning the view of the tile's source ids is owning its entries. -/
theorem pts_srcK (f : Buf (Elt F) (srcLoc d)) :
    ((srcK L).view.loc (thr d L) ↦[(srcK L).view.set]{fullShare} f : sProp 𝕄) = srcLoc d ↦[idsSet (wL L)]{fullShare} f := by
  rw [set_srcK]
/-- Owning the view of the tile's destination ids is owning its entries. -/
theorem pts_dstK (f : Buf (Elt F) (dstLoc d)) :
    ((dstK L).view.loc (thr d L) ↦[(dstK L).view.set]{fullShare} f : sProp 𝕄) = dstLoc d ↦[idsSet (wL L)]{fullShare} f := by
  rw [set_dstK]
/-- Owning the view of the tile's result rows is owning its entries. -/
theorem pts_hisK (f : Buf (Elt F) (hisLoc d)) :
    ((hisK L).view.loc (thr d L) ↦[(hisK L).view.set]{fullShare} f : sProp 𝕄) = hisLoc d ↦[hisSet (wL L)]{fullShare} f := by
  rw [set_hisK]

/-- Owning the view of the scratch for the source ids is owning its entries. -/
theorem pts_aV (f : Buf (Elt F) ((thr d L).loc cc0_scratch0)) :
    ((aV).view.loc (thr d L) ↦{fullShare} f : sProp 𝕄) = (thr d L).loc cc0_scratch0 ↦{fullShare} f := rfl
/-- Owning the view of the scratch for the destination ids is owning its entries. -/
theorem pts_bV (f : Buf (Elt F) ((thr d L).loc cc0_scratch1)) :
    ((bV).view.loc (thr d L) ↦{fullShare} f : sProp 𝕄) = (thr d L).loc cc0_scratch1 ↦{fullShare} f := rfl
/-- Owning the view of the scratch for the keys is owning its entries. -/
theorem pts_keyV (f : Buf (Elt F) ((thr d L).loc cc0_scratch2)) :
    ((keyV).view.loc (thr d L) ↦{fullShare} f : sProp 𝕄) = (thr d L).loc cc0_scratch2 ↦{fullShare} f := rfl
/-- Owning the view of the scratch for the rows is owning its entries. -/
theorem pts_rowV (f : Buf (Elt F) ((thr d L).loc cc0_scratch3)) :
    ((rowV).view.loc (thr d L) ↦{fullShare} f : sProp 𝕄) = (thr d L).loc cc0_scratch3 ↦{fullShare} f := rfl
/-- Owning the view of the table is owning its entries. -/
theorem pts_memV (q : PosShare TreeShare) (f : Buf (Elt F) (memLoc d)) :
    ((memV).view.loc (thr d L) ↦{q} f : sProp 𝕄) = memLoc d ↦{q} f := rfl

/-! ## The tile's own buffers and semaphores -/

abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)
abbrev cellG (d : Dev nD) (L : grid0.Coords) : GSem nD τ sig := (thr d L, .dma cc0_scratch4.sem)

/-- A DMA semaphore of a subcore is among its own cells. -/
theorem own_dma (s : DmaSem sig) (h : (SemLoc.dma s : SemLoc sig).isScoped .scVector = true) :
    ((thr d L, .dma s) : GSem nD τ sig) ∈ ownCells (thr d L) := mem_ownCells.mpr ⟨rfl, h⟩

/-- The tile's semaphores beside the three its copies use. -/
abbrev restCells (d : Dev nD) (L : grid0.Coords) : Finset (GSem nD τ sig) :=
  (((ownCells (thr d L)).erase (cell0 d L)).erase (cell1 d L)).erase (cell2 d L)

/-- Distinct semaphores are distinct cells. -/
theorem cell_ne {s t : DmaSem sig} (h : s ≠ t) : ((thr d L, .dma s) : GSem nD τ sig) ≠ (thr d L, .dma t) := fun e =>
  h (SemLoc.dma.inj (congrArg Prod.snd e))

/-- The tile's semaphores at zero: the copies' three and the rest. -/
theorem ownSems0_V :
    (ownSems0 (thr d L) : sProp 𝕄)
      = iprop(semVal (cell0 d L) 0 ∗ semVal (cell1 d L) 0 ∗ semVal (cell2 d L) 0 ∗ bigSep (restCells d L) fun g => semVal g 0) := by
  unfold SparseCore.Cfg.ownSems0
  rw [SparseCore.bigSep_erase' (own_dma d L cc0_scoped0.sem (by decide)),
    SparseCore.bigSep_erase' (Finset.mem_erase.mpr ⟨cell_ne d L (by decide), own_dma d L cc0_scoped1.sem (by decide)⟩),
    SparseCore.bigSep_erase' (Finset.mem_erase.mpr ⟨cell_ne d L (by decide), Finset.mem_erase.mpr ⟨cell_ne d L (by decide),
      own_dma d L cc0_scoped2.sem (by decide)⟩⟩)]

/-- The gathers' semaphore is among the rest. -/
theorem restCells_G :
    (bigSep (restCells d L) (fun g => semVal g 0) : sProp 𝕄)
      = iprop(semVal (cellG d L) 0 ∗ bigSep ((restCells d L).erase (cellG d L)) fun g => semVal g 0) :=
  SparseCore.bigSep_erase' (Finset.mem_erase.mpr ⟨cell_ne d L (by decide), Finset.mem_erase.mpr ⟨cell_ne d L (by decide),
    Finset.mem_erase.mpr ⟨cell_ne d L (by decide), own_dma d L cc0_scratch4.sem (by decide)⟩⟩⟩)

/-- The tile's own buffer names beside its four scratch buffers. -/
abbrev restRefs (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

/-- Distinct buffers are distinct locations of a tile. -/
theorem ref_ne {a b : Ref sig .scVector} (h : a ≠ b) :
    (Proc.scVector (cV L) (jV L)).devRef a ≠ (Proc.scVector (cV L) (jV L)).devRef b := fun e => h (Proc.devRef_injective _ e)

/-- The tile's own buffers are its four scratch buffers, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ref_ne L (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ref_ne L (show (cc0_scratch3 : Ref sig .scVector) ≠ cc0_scratch2 by decide),
      Finset.mem_erase.mpr ⟨ref_ne L (show (cc0_scratch3 : Ref sig .scVector) ≠ cc0_scratch1 by decide),
      Finset.mem_erase.mpr ⟨ref_ne L (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

end Cert.Proof.TilePieces
-- ==== Proof.TileKeys.lean ====
module

public import proofs.«01_k».proof.Proof.TilePieces

/-!
# The row numbers a tile holds

After its thirty-two vector stores a tile's key buffer holds, at row `r` and lane `c`, the table row of the pair
`128 * r + c` of its 512 pairs of identifiers; the rows gathered by them are the tile's 512 rows of the result.
-/

@[expose] public section

noncomputable section

namespace Cert.Proof.TileKeys

open Cert.KernelIdeal Cert.KernelIdeal.Gen

open Idealize.ShloMosaic Idealize.ShloMosaic.ValueIdx
open Cert.Proof.Setup Cert.Proof.TilePieces
open Cert.Proof.Keys (keyOf keyOf_lt pay_apply)

variable {F : FTy → Type} [FloatOps F]

variable (m : (ℓ : Loc nD τ sig) → Buf (Elt F) ℓ) (d : Dev nD) (L : grid0.Coords)

/-- The position in the whole list of entry `p` of tile `w`. -/
def posOf (w : Fin 32) (p : Fin 512) : Fin 16384 := ⟨512 * w.1 + p.1, by omega⟩

/-- The table row of pair `p` of tile `w`. -/
def keyAt (w : Fin 32) (p : Fin 512) : BitVec 32 :=
  keyOf (m (srcLoc d) (ix1 (posOf w p))) (m (dstLoc d) (ix1 (posOf w p)))

/-- The pair whose row number stands at row `r` and lane `c` of the key buffer. -/
def flat (r : Fin 4) (c : Fin 128) : Fin 512 := ⟨128 * r.1 + c.1, by omega⟩

/-- The key buffer after the stores. -/
def keyBuf : Buf (Elt F) ((thr d L).loc cc0_scratch2) := fun y : S4x128.Idx => keyAt m d (wL L) (flat (y 0) (y 1))

/-- The row buffer after the gathers. -/
def rowBuf : Buf (Elt F) ((thr d L).loc cc0_scratch3) := fun x : S512x128.Idx =>
  m (memLoc d) (ix2 ⟨(keyAt m d (wL L) (x 0)).toNat, keyOf_lt _ _⟩ (x 1))

/-- Entry `p` of the list of sources a tile fetches. -/
theorem read_srcK (f : S16384.Idx → BitVec 32) (p : Fin 512) :
    (srcK L).view.read (Elt F) f (ix1 p) = f (ix1 (posOf (wL L) p)) := by
  rw [View.read_apply]
  change f _ = _
  congr 1
  funext a
  match a with
  | 0 =>
    apply Fin.ext
    change (k0_off1 L) 0 + 1 * p.1 = 512 * ((L 0).1 + 2 * (L 1).1) + p.1
    rw [k0_off1_eq]
    simp only [Matrix.cons_val_zero]
    omega

/-- Entry `p` of the list of destinations a tile fetches. -/
theorem read_dstK (f : S16384.Idx → BitVec 32) (p : Fin 512) :
    (dstK L).view.read (Elt F) f (ix1 p) = f (ix1 (posOf (wL L) p)) := read_srcK L f p

/-- Row `p` of a tile's rows of the result is row `posOf w p` of the result. -/
theorem emb_hisK (x : S512x128.Idx) :
    (hisK L).view.emb x = (ix2 (posOf (wL L) (x 0)) (x 1) : S16384x128.Idx) := by
  funext a
  match a with
  | 0 =>
    apply Fin.ext
    change (k0_off2 L) 0 + 1 * (x 0).1 = 512 * ((L 0).1 + 2 * (L 1).1) + (x 0).1
    rw [k0_off2_eq]
    simp only [Matrix.cons_val_zero]
    omega
  | 1 =>
    apply Fin.ext
    change (k0_off2 L) 1 + 1 * (x 1).1 = (x 1).1
    rw [k0_off2_eq]
    simp

/-- The gathered array on a tile's rows is the tile's row buffer. -/
theorem histOf_hisK (x : S512x128.Idx) : histOf m d ((hisK L).view.emb x) = rowBuf m d L x := by
  rw [emb_hisK]; rfl

/-- A vector load at `n` from the fetched sources: lane `i` is entry `n + i`. -/
theorem load_aV (n : ℕ) (h : ∀ a, (![n] : Fin 1 → ℕ) a + S16.size a ≤ S512.size a) (f g : S512.Idx → BitVec 32) (i : Fin 16)
    (hi : n + i.1 < 512) :
    aV.view.readAt (Elt F) (Rect.unit (s := S512) ![n] S16.size h).toLoadRect (View.write (Elt F) aV.view f g Finset.univ) (ix1 i)
      = g (ix1 ⟨n + i.1, hi⟩) := by
  rw [View.readAt_rect, View.write_whole_univ, View.read_apply]
  change g _ = _
  congr 1
  funext a
  match a with
  | 0 => apply Fin.ext; change n + 1 * i.1 = n + i.1; omega

/-- The same from the fetched destinations. -/
theorem load_bV (n : ℕ) (h : ∀ a, (![n] : Fin 1 → ℕ) a + S16.size a ≤ S512.size a) (f g : S512.Idx → BitVec 32) (i : Fin 16)
    (hi : n + i.1 < 512) :
    bV.view.readAt (Elt F) (Rect.unit (s := S512) ![n] S16.size h).toLoadRect (View.write (Elt F) bV.view f g Finset.univ) (ix1 i)
      = g (ix1 ⟨n + i.1, hi⟩) := load_aV (F := F) n h f g i hi

/-- The vector stored at row `r`, lanes `c` to `c + 15`, is computed from the sixteen pairs at `n = 128 * r + c`. -/
theorem piece (fa fb : S512.Idx → BitVec 32) (n r c : ℕ) (hn : n = 128 * r + c)
    (ha : ∀ a, (![n] : Fin 1 → ℕ) a + S16.size a ≤ S512.size a) (hk : ∀ a, (![r, c] : Fin 2 → ℕ) a + S1x16.size a ≤ S4x128.size a)
    (x : S1x16.Idx) :
    k0_pay1 (F := F)
        (aV.view.readAt (Elt F) (Rect.unit (s := S512) ![n] S16.size ha).toLoadRect
          (View.write (Elt F) aV.view fa (ReadAs.same.apply ((srcK L).view.read (Elt F) (m (srcLoc d)))) Finset.univ))
        (bV.view.readAt (Elt F) (Rect.unit (s := S512) ![n] S16.size ha).toLoadRect
          (View.write (Elt F) bV.view fb (ReadAs.same.apply ((dstK L).view.read (Elt F) (m (dstLoc d)))) Finset.univ)) x
      = keyBuf m d L ((Rect.unit (s := S4x128) ![r, c] S1x16.size hk).emb x) := by
  have hn16 : n + 16 ≤ 512 := ha 0
  obtain ⟨u, i, rfl⟩ : ∃ (u : Fin 1) (i : Fin 16), x = ix2 u i := ⟨x 0, x 1, by funext a; match a with | 0 => rfl | 1 => rfl⟩
  have hlt : n + i.1 < 512 := by omega
  have hp : flat ((Rect.unit (s := S4x128) ![r, c] S1x16.size hk).emb (ix2 u i) 0)
      ((Rect.unit (s := S4x128) ![r, c] S1x16.size hk).emb (ix2 u i) 1) = ⟨n + i.1, hlt⟩ := by
    apply Fin.ext
    change 128 * (r + 1 * u.1) + (c + 1 * i.1) = n + i.1
    omega
  refine (pay_apply _ _ u i).trans ?_
  unfold keyBuf
  beta_reduce
  rw [hp, load_aV (F := F) _ _ _ _ _ hlt, load_bV (F := F) _ _ _ _ _ hlt]
  exact congrArg₂ keyOf (read_srcK (F := F) L _ _) (read_dstK (F := F) L _ _)

/-- Stores that cover the key buffer, each agreeing with it, leave it. -/
theorem keys_of_pieces (fk : S4x128.Idx → BitVec 32) (ps : List (View.Piece (Elt F) S4x128 .i32))
    (hp : ∀ p ∈ ps, ∀ x : p.1.shape.Idx, p.2 x = keyBuf m d L (p.1.emb x)) (hc : View.Piece.tiled ps ![1, 16] = true) :
    keyV.view.writes (Elt F) fk ps = keyBuf m d L := by
  funext y
  exact View.read_writes_apply_of_pieces (Val := Elt F) keyV.view fk (keyBuf m d L) ps hp y (View.cover_of_tiled ps ![1, 16] hc y)

/-- A copy of the row buffer over a tile's rows of the result leaves the gathered array there. -/
theorem his_of_copy (f : Buf (Elt F) (hisLoc d)) (w : S512x128.Idx → Elt F .f32) (hw : w = rowBuf m d L) :
    ∀ x ∈ (hisK L).view.set, (hisK L).view.writes (Elt F) f [⟨Rect.whole S512x128, w⟩] x = histOf m d x := by
  intro x hx
  obtain ⟨y, -, rfl⟩ := Finset.mem_map.mp hx
  have h := View.read_writes_apply_of_pieces (Val := Elt F) (hisK L).view f (rowBuf m d L) [⟨Rect.whole S512x128, w⟩]
    (List.forall_mem_cons.mpr ⟨fun y => by
      change w y = rowBuf m d L ((Rect.whole S512x128).emb y)
      rw [hw, Rect.emb_whole_apply], List.forall_mem_nil _⟩) y
    ⟨_, List.mem_cons_self, by rw [Rect.set_whole]; exact Finset.mem_univ y⟩
  rw [View.read_apply] at h
  rw [histOf_hisK]
  exact h

end Cert.Proof.TileKeys
-- ==== Proof.TileBatch.lean ====
module

public import proofs.«01_k».proof.Proof.TileKeys

/-!
# A tile's four gathers on one semaphore

The row buffer is four blocks of 128 rows and the key buffer four rows of 128 lanes; gather `j` brings block `j` the
table rows that row `j` of the keys names. The 512 row transfers are one batch on the gathers' semaphore: transfer
`128 * j + i` is row `i` of gather `j`.
-/

@[expose] public section

noncomputable section

namespace Cert.Proof.TileBatch

open Cert.KernelIdeal Cert.KernelIdeal.Gen

open Idealize.ShloMosaic Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Setup Cert.Proof.TilePieces Cert.Proof.TileKeys Cert.Proof.GatherBatch
open Cert.Proof.Keys (keyOf keyOf_lt)

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The blocks -/

/-- A block of rows lies in the tile's rows. -/
theorem rowB_inb (j : Fin 4) : ∀ a, (![128 * j.1, 0] : Fin 2 → ℕ) a + S128x128.size a ≤ S512x128.size a := fun a =>
  match a with | 0 => by change 128 * j.1 + 128 ≤ 512; omega | 1 => by change 0 + 128 ≤ 128; omega
/-- A row of keys lies in the tile's keys. -/
theorem keyB_inb (j : Fin 4) : ∀ a, (![j.1, 0] : Fin 2 → ℕ) a + S1x128.size a ≤ S4x128.size a := fun a =>
  match a with | 0 => by change j.1 + 1 ≤ 4; omega | 1 => by change 0 + 128 ≤ 128; omega

abbrev rowRectB (j : Fin 4) : Rect S512x128 := Rect.unit (s := S512x128) ![128 * j.1, 0] S128x128.size (rowB_inb j)
abbrev keyRectB (j : Fin 4) : Rect S4x128 := Rect.unit (s := S4x128) ![j.1, 0] S1x128.size (keyB_inb j)
/-- Block `j` of the row buffer, row `j` of the key buffer, and the table as the gathers address it. -/
abbrev rowB (j : Fin 4) : Memref sig .scVector .vmem S128x128 .f32 := rowV.slice (rowRectB j) (fun _ => rfl)
abbrev keyB (j : Fin 4) : Memref sig .scVector .vmem S128 .i32 := (keyV.slice (keyRectB j) (fun _ => rfl)).squeeze S128 squeezes_S1x128_S128
abbrev memB : Memref sig .scVector .hbm S100000x128 .f32 :=
  memV.slice (Rect.unit (s := S100000x128) ![0, 0] S100000x128.size inb_S100000x128_S100000x128_0_0) (fun _ => rfl)

/-- The tile's rows divide into four blocks. -/
theorem row_div : 4 ∣ S512x128.size 0 := ⟨128, rfl⟩
/-- The tile's keys divide into four rows. -/
theorem key_div : 4 ∣ S4x128.size 0 := ⟨1, rfl⟩

/-- A block of rows is one of the four equal parts. -/
theorem rowRectB_eq (j : Fin 4) : rowRectB j = Rect.part (s := S512x128) (a₀ := 0) row_div j := by
  unfold rowRectB Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

/-- A row of keys is one of the four equal parts. -/
theorem keyRectB_eq (j : Fin 4) : keyRectB j = Rect.part (s := S4x128) (a₀ := 0) key_div j := by
  unfold keyRectB Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- The entries of a block of rows. -/
theorem set_rowB (j : Fin 4) : (rowB j).view.set = (Rect.part (s := S512x128) (a₀ := 0) row_div j).set := by
  change ((View.whole (cc0_scratch3 : Ref sig .scVector)).slice (rowRectB j)).set = _
  rw [View.set_slice, rowRectB_eq]; exact Finset.map_refl
/-- The entries of a row of keys. -/
theorem set_keyB (j : Fin 4) : (keyB j).view.set = (Rect.part (s := S4x128) (a₀ := 0) key_div j).set := by
  refine (View.set_reshape _ _).trans ?_
  change ((View.whole (cc0_scratch2 : Ref sig .scVector)).slice (keyRectB j)).set = _
  rw [View.set_slice, keyRectB_eq]; exact Finset.map_refl
/-- A gather's table view is the whole table. -/
theorem set_memB : memB.view.set = Finset.univ := by
  change ((View.whole (main_arg6_scv : Ref sig .scVector)).slice _).set = _
  rw [View.set_slice_whole]
  exact Rect.set_eq_univ_of_whole _ fun a => match a with | 0 => ⟨rfl, rfl, rfl⟩ | 1 => ⟨rfl, rfl, rfl⟩

/-- The row buffer is its four blocks. -/
theorem row_blocks (f : Buf (Elt F) ((thr d L).loc cc0_scratch3)) :
    (rowV.view.loc (thr d L) ↦{fullShare} f : sProp 𝕄)
      = bigSep Finset.univ fun j : Fin 4 => (rowB j).view.loc (thr d L) ↦[(rowB j).view.set]{fullShare} f := by
  refine Eq.trans ?_ (congrArg (bigSep Finset.univ) (funext fun j => by rw [set_rowB])).symm
  refine Eq.trans ?_ (pointsTo_biUnion Finset.univ (ℓ := (thr d L).loc cc0_scratch3) (fun j : Fin 4 => (Rect.part (s := S512x128) (a₀ := 0) row_div j).set)
    (fun _ _ _ _ h => Rect.part_disjoint row_div h))
  rw [Rect.biUnion_part row_div]

/-- The key buffer is its four rows. -/
theorem key_rows (f : Buf (Elt F) ((thr d L).loc cc0_scratch2)) :
    (keyV.view.loc (thr d L) ↦{fullShare} f : sProp 𝕄)
      = bigSep Finset.univ fun j : Fin 4 => (keyB j).view.loc (thr d L) ↦[(keyB j).view.set]{fullShare} f := by
  refine Eq.trans ?_ (congrArg (bigSep Finset.univ) (funext fun j => by rw [set_keyB])).symm
  refine Eq.trans ?_ (pointsTo_biUnion Finset.univ (ℓ := (thr d L).loc cc0_scratch2) (fun j : Fin 4 => (Rect.part (s := S4x128) (a₀ := 0) key_div j).set)
    (fun _ _ _ _ h => Rect.part_disjoint key_div h))
  rw [Rect.biUnion_part key_div]

/-- The share of the table gather `j` reads through. -/
abbrev memPiece (j : Fin 4) : PosShare TreeShare := pieceOf (memShare (wL L)) 4 (by decide) j

/-- The tile's share of the table is the four gathers' shares. -/
theorem mem_pieces :
    (memV.view.loc (thr d L) ↦{memShare (wL L)} m (memLoc d) : sProp 𝕄)
      = bigSep Finset.univ fun j : Fin 4 => memB.view.loc (thr d L) ↦[memB.view.set]{memPiece L j} m (memLoc d) := by
  rw [set_memB]
  exact pointsTo_piecesOf Finset.univ (m (memLoc d)) (by decide) (memShare (wL L))

/-! ## What the list names and what arrives -/

/-- Entry `i` of gather `j`'s list is the key of pair `128 * j + i`. -/
theorem read_keyB (j : Fin 4) (x : S128.Idx) : (keyB j).view.read (Elt F) (keyBuf m d L) x = keyAt m d (wL L) (flat j (x 0)) := by
  obtain ⟨i, rfl⟩ : ∃ i : Fin 128, x = ix1 i := ⟨x 0, by funext a; match a with | 0 => rfl⟩
  refine (shapeCast_1a_a_apply (a := 128) ((keyV.slice (keyRectB j) (fun _ => rfl)).view.read (Elt F) (keyBuf m d L)) _ i).trans ?_
  rw [View.read_apply]
  change keyAt m d (wL L) _ = keyAt m d (wL L) _
  congr 1
  apply Fin.ext
  change 128 * (j.1 + 1 * 0) + (0 + 1 * i.1) = 128 * j.1 + i.1
  omega

/-- Every key of a block names a row of the table. -/
theorem keyB_lt (j : Fin 4) (x : S128.Idx) : ((keyB j).view.read (Elt F) (keyBuf m d L) x).toNat < S100000x128.size gathers_S100000x128_S128x128.axis := by
  rw [read_keyB]; exact keyOf_lt _ _

/-- The table rows gather `j` brings. -/
abbrev rowsB (j : Fin 4) : Fin (S128x128.size gathers_S100000x128_S128x128.axis') → Fin (S100000x128.size gathers_S100000x128_S128x128.axis) :=
  rows ((keyB j).view.read (Elt F) (keyBuf m d L)) rfl (keyB_lt m d L j)

/-- Gather `j`'s block of the row buffer is the row buffer's contents there. -/
theorem block_value (j : Fin 4) (fr : Buf (Elt F) ((thr d L).loc cc0_scratch3)) :
    ∀ x ∈ (rowB j).view.set, (rowB j).view.write (Elt F) fr
        (gatherPayload gathers_S100000x128_S128x128 (memB.view.read (Elt F) (m (memLoc d))) (rowsB m d L j)) Finset.univ x
      = rowBuf m d L x := by
  intro x hx
  obtain ⟨y, -, rfl⟩ := Finset.mem_map.mp hx
  rw [View.write_emb_of_mem _ _ (Finset.mem_univ y)]
  change memB.view.read (Elt F) (m (memLoc d)) (gathers_S100000x128_S128x128.idx (rowsB m d L j) y) = _
  rw [View.read_apply]
  change m (memLoc d) _ = m (memLoc d) _
  congr 1
  funext a
  match a with
  | 0 =>
    apply Fin.ext
    change 0 + 1 * (gathers_S100000x128_S128x128.idx (rowsB m d L j) y gathers_S100000x128_S128x128.axis).1 = (keyAt m d (wL L) _).toNat
    rw [Shape.Gathers.idx_axis]
    change 0 + 1 * ((keyB j).view.read (Elt F) (keyBuf m d L) _).toNat = _
    rw [read_keyB, Nat.zero_add, Nat.one_mul]
    congr 2
    apply Fin.ext
    change 128 * j.1 + (S128.rowMajor.symm _ 0).1 = 128 * j.1 + 1 * (y 0).1
    rw [← Shape.rowMajor_val_one, Equiv.apply_symm_apply, Nat.one_mul]
    rfl
  | 1 =>
    apply Fin.ext
    change 0 + 1 * (gathers_S100000x128_S128x128.idx (rowsB m d L j) y 1).1 = 0 + 1 * (y 1).1
    rw [Shape.Gathers.idx_of_ne _ _ _ _ (by decide)]; rfl

/-! ## The batch -/

/-- What row `i` of gather `j` brings. -/
def deliv (fr : Buf (Elt F) ((thr d L).loc cc0_scratch3)) (j : Fin 4) (i : Fin 128) : sProp 𝕄 :=
  rowBack (thr d L) memB (rowB j) gathers_S100000x128_S128x128 (keyB j) rfl (by decide) (memPiece L j) fullShare
    (m (memLoc d)) fr (keyBuf m d L) (rowsB m d L j) i

instance deliv_storable (fr : Buf (Elt F) ((thr d L).loc cc0_scratch3)) (j : Fin 4) (i : Fin 128) :
    Storable (upEmb : UEmb _ 𝕄) (deliv m d L fr j i) := rowBack_storable ..

/-- What transfer `t` of the batch brings: row `t % 128` of gather `t / 128`. -/
def DB (fr : Buf (Elt F) ((thr d L).loc cc0_scratch3)) (t : Fin 512) : sProp 𝕄 :=
  deliv m d L fr ⟨t.1 / 128, by omega⟩ ⟨t.1 % 128, Nat.mod_lt _ (by decide)⟩

instance DB_storable (fr : Buf (Elt F) ((thr d L).loc cc0_scratch3)) (t : Fin 512) :
    Storable (upEmb : UEmb _ 𝕄) (DB m d L fr t) := deliv_storable ..

/-- A gathered block read at an entry. -/
theorem DB_at (fr : Buf (Elt F) ((thr d L).loc cc0_scratch3)) (j : Fin 4) (i : Fin 128) (h : 128 * j.1 + i.1 < 512) :
    DB m d L fr ⟨128 * j.1 + i.1, h⟩ = deliv m d L fr j i := by
  unfold DB
  exact congrArg₂ (deliv m d L fr) (Fin.ext (by change (128 * j.1 + i.1) / 128 = j.1; omega)) (Fin.ext (by change (128 * j.1 + i.1) % 128 = i.1; omega))

/-- What the gathers' semaphore is credited for one row. -/
def rowCredit : ℕ :=
  ((rowB 0).slice (S128x128.rowRect gathers_S100000x128_S128x128.axis' ⟨0, by decide⟩) (S128x128.stride_rowRect _ _)).view.dmaCredit

/-- The gathers' batch with the first `k` transfers started and `u` credits waited for. -/
abbrev BatchG (fr : Buf (Elt F) ((thr d L).loc cc0_scratch3)) (k u : ℕ) : sProp 𝕄 :=
  Transfers.Batch countersEmb (thr d L) (.dma cc0_scratch4.sem) (default : HIx 1) rowCredit (DB m d L fr) k u

/-- Everything the batch brings: the row buffer filled, and the table's share and the keys back. -/
theorem DB_all (fr : Buf (Elt F) ((thr d L).loc cc0_scratch3)) :
    bigSep Finset.univ (DB m d L fr)
      ⊢ iprop((rowV.view.loc (thr d L) ↦{fullShare} rowBuf m d L) ∗ (memV.view.loc (thr d L) ↦{memShare (wL L)} m (memLoc d))
          ∗ (keyV.view.loc (thr d L) ↦{fullShare} keyBuf m d L)) := by
  have hcut : bigSep Finset.univ (DB m d L fr) = bigSep Finset.univ fun j : Fin 4 => bigSep Finset.univ (deliv m d L fr j) := by
    rw [bigSep_univ_equiv (finProdFinEquiv : Fin 4 × Fin 128 ≃ Fin (4 * 128)) (DB m d L fr), bigSep_univ_prod]
    refine congrArg (bigSep Finset.univ) (funext fun j => congrArg (bigSep Finset.univ) (funext fun i => ?_))
    rw [← DB_at m d L fr j i (by omega)]
    exact congrArg (DB m d L fr) (Fin.ext (Nat.add_comm _ _))
  rw [hcut, row_blocks, mem_pieces, key_rows, ← bigSep_sep', ← bigSep_sep']
  refine bigSep_mono fun j _ => ?_
  refine (rowBack_all (thr d L) memB (rowB j) gathers_S100000x128_S128x128 (keyB j) rfl (by decide) (memPiece L j) fullShare
    (m (memLoc d)) fr (keyBuf m d L) (rowsB m d L j)).trans ?_
  rw [pointsTo_congr (block_value m d L j fr)]

/-- A family over the four gathers, one by one. -/
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A block's wait is for 128 rows' credit. -/
theorem credit_rowB (j : Fin 4) : (rowB j).view.dmaCredit = 128 * rowCredit := by rfl

/-- A gather's completion counts for something. -/
theorem rowCredit_pos : 0 < rowCredit := by unfold rowCredit; exact View.dmaCredit_pos _ (by decide)

/-- Gather `j` starts: from its piece of the table's share, its block and its keys the batch goes 128 transfers on. -/
theorem wp_gather {defs : Defs nD τ sig (Elt F) Λ₀} {α : Type} {Q : α → sProp 𝕄} (𝒲 : Variants) (bd : Option 𝒲.V)
    (fr : Buf (Elt F) ((thr d L).loc cc0_scratch3)) (j : Fin 4)
    {k : PUnit → Prog (TpuEff nD τ sig (Elt F) Λ₀ (thr d L).2) α} {k₀ k₁ : ℕ} (h₀ : 128 * j.1 = k₀) (h₁ : k₀ + 128 = k₁)
    {hp : (thr d L).2.kind = .scVector} {hn : S128.numel = S128x128.size gathers_S100000x128_S128x128.axis'}
    {hsrc : memB.view.WordExact} {he : EltTy.f32.bits = 32} {hsp : Space.hbm = .hbm ∨ Space.hbm = .shared} {hr : S100000x128.StreamRows 0} :
    iprop((memB.view.loc (thr d L) ↦[memB.view.set]{memPiece L j} m (memLoc d))
        ∗ ((rowB j).view.loc (thr d L) ↦[(rowB j).view.set]{fullShare} fr)
        ∗ ((keyB j).view.loc (thr d L) ↦[(keyB j).view.set]{fullShare} keyBuf m d L) ∗ BatchG m d L fr k₀ 0)
      ⊢ iprop((BatchG m d L fr k₁ 0 -∗ wp frame (wpE defs 𝒲 (thr d L) bd) Set.univ (k ⟨⟩) Q)
          -∗ wp frame (wpE defs 𝒲 (thr d L) bd) Set.univ
            (SparseCore.enqueueIndirectGather hp memB (rowB j) gathers_S100000x128_S128x128 (keyB j) hn cc0_scratch4.sem hsrc he hsp hr >>= k) Q) := by
  subst h₀ h₁
  have hN : ∀ i : Fin 128, ((rowB j).slice (S128x128.rowRect gathers_S100000x128_S128x128.axis' i) (S128x128.stride_rowRect _ _)).view.dmaCredit = rowCredit :=
    fun _ => rfl
  have hD : ∀ i : Fin 128, deliv m d L fr j i ⊢ DB m d L fr ⟨128 * j.1 + i.1, by omega⟩ := fun i =>
    Entails.of_eq (DB_at m d L fr j i (by omega)).symm
  exact wp_gatherInBatch countersEmb 𝒲 (thr d L) bd (src := memB) (dst := rowB j) (offs := keyB j) (hg := gathers_S100000x128_S128x128)
    (D := DB m d L fr) (N := rowCredit) (u := 0) (q := memPiece L j) (qo := fullShare) (fs := m (memLoc d)) (fd := fr) (fo := keyBuf m d L)
    (sem := cc0_scratch4.sem) (k₀ := 128 * j.1) (n := 512) (hn := hn) (hp := hp) (hsrc := hsrc) (he := he) (hsp := hsp) (hr := hr) (k := k)
    (default : HIx 1) hN (by decide) (keyB_lt m d L j)
    (show 128 * j.1 + 128 ≤ 512 by omega) (Nat.zero_le _) hD

end Cert.Proof.TileBatch
-- ==== Proof.TileRun.lean ====
module

public import proofs.«01_k».proof.Proof.TileBatch

@[expose] public section

noncomputable section

namespace Cert.Proof.TileRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Setup Cert.Proof.TilePieces Cert.Proof.TileKeys Cert.Proof.TileBatch
open Cert.Proof.Keys (keyOf keyOf_lt pay_apply)

variable {F : FTy → Type} [FloatOps F]

local notation "𝕄" => MT nD τ sig (HIx 1) (Elt F) ℕ UU ℕ

variable (m : (ℓ : Loc nD τ sig) → Buf (Elt F) ℓ) (d : Dev nD) (L : grid0.Coords)

set_option maxHeartbeats 4000000 in
/-- The tile's run. -/
theorem tile_body (hF : (K (F := F)).Facts) (O : CellTallies nD τ sig (HIx 1)) (W : Waits sig (HIx 1)) (hO : ∀ g, O g none = 0) :
    iprop(levAts (K (F := F)).L (K (F := F)).lev ∗ emp ∗ goRes m d (wL L)
        ∗ scopedBufs (thr d L) ∗ scopedSems0 (thr d L) ∗ owes (thr d L) O W)
      ⊢ wp frame (wpE (defs₀ (F := F)) 𝒱₀ (thr d L) none) Set.univ
          (cc0__sc_gather_body L srcV (Memref.isWhole_whole _) dstV (Memref.isWhole_whole _) memV (Memref.isWhole_whole _)
            hisV (Memref.isWhole_whole _) aV (Memref.isWhole_whole _) bV (Memref.isWhole_whole _) keyV (Memref.isWhole_whole _)
            rowV (Memref.isWhole_whole _) cc0_scratch4 cc0_scoped0 cc0_scoped1 cc0_scoped2)
          fun _ => iprop(tdRes m d (wL L) ∗ scopedBufs (thr d L) ∗ scopedSems0 (thr d L)
            ∗ ∃ W', ⌜∀ p ∈ W', p ∈ W ∨ p.2 = none⌝ ∗ owes (thr d L) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hsrc, Hdst, Hmem, Hhis⟩, ⟨⟨%fa, Ha⟩, ⟨%fb, Hb⟩, ⟨%fk, Hk⟩, ⟨%fr, Hr⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hsrc := (Entails.of_eq (pts_srcK (F := F) d L _).symm) $$ Hsrc
  ihave Hdst := (Entails.of_eq (pts_dstK (F := F) d L _).symm) $$ Hdst
  ihave Hhis := (Entails.of_eq (pts_hisK (F := F) d L _).symm) $$ Hhis
  ihave Ha := (Entails.of_eq (pts_aV (F := F) d L _).symm) $$ Ha
  ihave Hb := (Entails.of_eq (pts_bV (F := F) d L _).symm) $$ Hb
  ihave Hk := (Entails.of_eq (pts_keyV (F := F) d L _).symm) $$ Hk
  ihave Hr := (Entails.of_eq (pts_rowV (F := F) d L _).symm) $$ Hr
  ihave Hmem := (Entails.of_eq (pts_memV (F := F) d L _ _).symm) $$ Hmem
  sl_open_parts
  sl_exec
  have hkeysTo : ∀ f : Buf (Elt F) ((keyV).view.loc (thr d L)), f = keyBuf m d L →
      (((keyV).view.loc (thr d L) ↦{fullShare} f : sProp 𝕄) ⊢ (keyV).view.loc (thr d L) ↦{fullShare} keyBuf m d L) := fun f h => h ▸ .rfl
  ihave Hk := (hkeysTo _ ?hkeys) $$ Hk
  case hkeys =>
    unfold tile_body.sl.dma0 tile_body.sl.dma0_1
    refine keys_of_pieces (F := F) m d L fk _ ?_ rfl
    refine List.forall_mem_cons.mpr ⟨fun x => piece (F := F) m d L fa fb 496 3 112 rfl inb_S512_S16_496 inb_S4x128_S1x16_3_112 x, ?_⟩
    refine List.forall_mem_cons.mpr ⟨fun x => piece (F := F) m d L fa fb 480 3 96 rfl inb_S512_S16_480 inb_S4x128_S1x16_3_96 x, ?_⟩
    refine List.forall_mem_cons.mpr ⟨fun x => piece (F := F) m d L fa fb 464 3 80 rfl inb_S512_S16_464 inb_S4x128_S1x16_3_80 x, ?_⟩
    refine List.forall_mem_cons.mpr ⟨fun x => piece (F := F) m d L fa fb 448 3 64 rfl inb_S512_S16_448 inb_S4x128_S1x16_3_64 x, ?_⟩
    refine List.forall_mem_cons.mpr ⟨fun x => piece (F := F) m d L fa fb 432 3 48 rfl inb_S512_S16_432 inb_S4x128_S1x16_3_48 x, ?_⟩
    refine List.forall_mem_cons.mpr ⟨fun x => piece (F := F) m d L fa fb 416 3 32 rfl inb_S512_S16_416 inb_S4x128_S1x16_3_32 x, ?_⟩
    refine List.forall_mem_cons.mpr ⟨fun x => piece (F := F) m d L fa fb 400 3 16 rfl inb_S512_S16_400 inb_S4x128_S1x16_3_16 x, ?_⟩
    refine List.forall_mem_cons.mpr ⟨fun x => piece (F := F) m d L fa fb 384 3 0 rfl inb_S512_S16_384 inb_S4x128_S1x16_3_0 x, ?_⟩
    refine List.forall_mem_cons.mpr ⟨fun x => piece (F := F) m d L fa fb 368 2 112 rfl inb_S512_S16_368 inb_S4x128_S1x16_2_112 x, ?_⟩
    refine List.forall_mem_cons.mpr ⟨fun x => piece (F := F) m d L fa fb 352 2 96 rfl inb_S512_S16_352 inb_S4x128_S1x16_2_96 x, ?_⟩
    refine List.forall_mem_cons.mpr ⟨fun x => piece (F := F) m d L fa fb 336 2 80 rfl inb_S512_S16_336 inb_S4x128_S1x16_2_80 x, ?_⟩
    refine List.forall_mem_cons.mpr ⟨fun x => piece (F := F) m d L fa fb 320 2 64 rfl inb_S512_S16_320 inb_S4x128_S1x16_2_64 x, ?_⟩
    refine List.forall_mem_cons.mpr ⟨fun x => piece (F := F) m d L fa fb 304 2 48 rfl inb_S512_S16_304 inb_S4x128_S1x16_2_48 x, ?_⟩
    refine List.forall_mem_cons.mpr ⟨fun x => piece (F := F) m d L fa fb 288 2 32 rfl inb_S512_S16_288 inb_S4x128_S1x16_2_32 x, ?_⟩
    refine List.forall_mem_cons.mpr ⟨fun x => piece (F := F) m d L fa fb 272 2 16 rfl inb_S512_S16_272 inb_S4x128_S1x16_2_16 x, ?_⟩
    refine List.forall_mem_cons.mpr ⟨fun x => piece (F := F) m d L fa fb 256 2 0 rfl inb_S512_S16_256 inb_S4x128_S1x16_2_0 x, ?_⟩
    refine List.forall_mem_cons.mpr ⟨fun x => piece (F := F) m d L fa fb 240 1 112 rfl inb_S512_S16_240 inb_S4x128_S1x16_1_112 x, ?_⟩
    refine List.forall_mem_cons.mpr ⟨fun x => piece (F := F) m d L fa fb 224 1 96 rfl inb_S512_S16_224 inb_S4x128_S1x16_1_96 x, ?_⟩
    refine List.forall_mem_cons.mpr ⟨fun x => piece (F := F) m d L fa fb 208 1 80 rfl inb_S512_S16_208 inb_S4x128_S1x16_1_80 x, ?_⟩
    refine List.forall_mem_cons.mpr ⟨fun x => piece (F := F) m d L fa fb 192 1 64 rfl inb_S512_S16_192 inb_S4x128_S1x16_1_64 x, ?_⟩
    refine List.forall_mem_cons.mpr ⟨fun x => piece (F := F) m d L fa fb 176 1 48 rfl inb_S512_S16_176 inb_S4x128_S1x16_1_48 x, ?_⟩
    refine List.forall_mem_cons.mpr ⟨fun x => piece (F := F) m d L fa fb 160 1 32 rfl inb_S512_S16_160 inb_S4x128_S1x16_1_32 x, ?_⟩
    refine List.forall_mem_cons.mpr ⟨fun x => piece (F := F) m d L fa fb 144 1 16 rfl inb_S512_S16_144 inb_S4x128_S1x16_1_16 x, ?_⟩
    refine List.forall_mem_cons.mpr ⟨fun x => piece (F := F) m d L fa fb 128 1 0 rfl inb_S512_S16_128 inb_S4x128_S1x16_1_0 x, ?_⟩
    refine List.forall_mem_cons.mpr ⟨fun x => piece (F := F) m d L fa fb 112 0 112 rfl inb_S512_S16_112 inb_S4x128_S1x16_0_112 x, ?_⟩
    refine List.forall_mem_cons.mpr ⟨fun x => piece (F := F) m d L fa fb 96 0 96 rfl inb_S512_S16_96 inb_S4x128_S1x16_0_96 x, ?_⟩
    refine List.forall_mem_cons.mpr ⟨fun x => piece (F := F) m d L fa fb 80 0 80 rfl inb_S512_S16_80 inb_S4x128_S1x16_0_80 x, ?_⟩
    refine List.forall_mem_cons.mpr ⟨fun x => piece (F := F) m d L fa fb 64 0 64 rfl inb_S512_S16_64 inb_S4x128_S1x16_0_64 x, ?_⟩
    refine List.forall_mem_cons.mpr ⟨fun x => piece (F := F) m d L fa fb 48 0 48 rfl inb_S512_S16_48 inb_S4x128_S1x16_0_48 x, ?_⟩
    refine List.forall_mem_cons.mpr ⟨fun x => piece (F := F) m d L fa fb 32 0 32 rfl inb_S512_S16_32 inb_S4x128_S1x16_0_32 x, ?_⟩
    refine List.forall_mem_cons.mpr ⟨fun x => piece (F := F) m d L fa fb 16 0 16 rfl inb_S512_S16_16 inb_S4x128_S1x16_0_16 x, ?_⟩
    refine List.forall_mem_cons.mpr ⟨fun x => piece (F := F) m d L fa fb 0 0 0 rfl inb_S512_S16_0 inb_S4x128_S1x16_0_0 x, ?_⟩
    exact List.forall_mem_nil _
  ihave Hsems := (Entails.of_eq (restCells_G (F := F) d L)) $$ Hsems
  icases Hsems with ⟨HsG, Hsems⟩
  imod (Transfers.batch_alloc' countersEmb (c := thr d L) (sm := .dma cc0_scratch4.sem) (default : HIx 1) rowCredit (DB m d L fr) (E := Set.univ)) $$ HsG with HB
  ihave Hr := (Entails.of_eq ((row_blocks (F := F) d L fr).trans (fin4 _))) $$ Hr
  ihave Hk := (Entails.of_eq ((key_rows (F := F) d L (keyBuf m d L)).trans (fin4 _))) $$ Hk
  ihave Hmem := (Entails.of_eq ((mem_pieces (F := F) m d L).trans (fin4 _))) $$ Hmem
  icases Hr with ⟨Hr0, Hr1, Hr2, Hr3⟩
  icases Hk with ⟨Hk0, Hk1, Hk2, Hk3⟩
  icases Hmem with ⟨Hm0, Hm1, Hm2, Hm3⟩
  simp -proj only [bind_assoc, pure_bind]
  iapply (wp_gather m d L _ _ fr 0 (k₀ := 0) (k₁ := 128) rfl rfl) $$ [Hm0 Hr0 Hk0 HB]
  · isplitl [Hm0]; · iexact Hm0
    isplitl [Hr0]; · iexact Hr0
    isplitl [Hk0]; · iexact Hk0
    iexact HB
  iintro HB
  iapply (wp_gather m d L _ _ fr 1 (k₀ := 128) (k₁ := 256) rfl rfl) $$ [Hm1 Hr1 Hk1 HB]
  · isplitl [Hm1]; · iexact Hm1
    isplitl [Hr1]; · iexact Hr1
    isplitl [Hk1]; · iexact Hk1
    iexact HB
  iintro HB
  iapply (wp_gather m d L _ _ fr 2 (k₀ := 256) (k₁ := 384) rfl rfl) $$ [Hm2 Hr2 Hk2 HB]
  · isplitl [Hm2]; · iexact Hm2
    isplitl [Hr2]; · iexact Hr2
    isplitl [Hk2]; · iexact Hk2
    iexact HB
  iintro HB
  iapply (wp_gather m d L _ _ fr 3 (k₀ := 384) (k₁ := 512) rfl rfl) $$ [Hm3 Hr3 Hk3 HB]
  · isplitl [Hm3]; · iexact Hm3
    isplitl [Hr3]; · iexact Hr3
    isplitl [Hk3]; · iexact Hk3
    iexact HB
  iintro HB
  iapply (Transfers.wp_waitBatchMulO countersEmb 𝒱₀ (thr d L) none (j := 512) (dstw := rowB 0) (default : HIx 1) 128 (credit_rowB 0) (D := DB m d L fr) (u := 0)
      (by omega)) $$ [HB HO]
  · isplitl [HB]; · iexact HB
    isplitl [HO]; · iexact HO
    iapply (Transfers.MayWaits.elim (SemLoc.dma cc0_scratch4.sem)) $$ Hmw
  iintro ⟨HB, HO⟩
  ihave HB := (Entails.of_eq (congrArg (BatchG m d L fr 512) (show 0 + 128 * rowCredit = 128 * rowCredit by omega))) $$ HB
  iapply (Transfers.wp_waitBatchMulO countersEmb 𝒱₀ (thr d L) none (j := 512) (dstw := rowB 1) (default : HIx 1) 128 (credit_rowB 1) (D := DB m d L fr) (u := 128 * rowCredit)
      (by omega)) $$ [HB HO]
  · isplitl [HB]; · iexact HB
    isplitl [HO]; · iexact HO
    iapply (Transfers.MayWaits.elim (SemLoc.dma cc0_scratch4.sem)) $$ Hmw
  iintro ⟨HB, HO⟩
  ihave HB := (Entails.of_eq (congrArg (BatchG m d L fr 512) (show 128 * rowCredit + 128 * rowCredit = 256 * rowCredit by omega))) $$ HB
  iapply (Transfers.wp_waitBatchMulO countersEmb 𝒱₀ (thr d L) none (j := 512) (dstw := rowB 2) (default : HIx 1) 128 (credit_rowB 2) (D := DB m d L fr) (u := 256 * rowCredit)
      (by omega)) $$ [HB HO]
  · isplitl [HB]; · iexact HB
    isplitl [HO]; · iexact HO
    iapply (Transfers.MayWaits.elim (SemLoc.dma cc0_scratch4.sem)) $$ Hmw
  iintro ⟨HB, HO⟩
  ihave HB := (Entails.of_eq (congrArg (BatchG m d L fr 512) (show 256 * rowCredit + 128 * rowCredit = 384 * rowCredit by omega))) $$ HB
  iapply (Transfers.wp_waitBatchAllO countersEmb 𝒱₀ (thr d L) none (dstw := rowB 3) (default : HIx 1) (credit_rowB 3) rowCredit_pos (D := DB m d L fr) (u := 384 * rowCredit)
      (by omega)) $$ [HB HO]
  · isplitl [HB]; · iexact HB
    isplitl [HO]; · iexact HO
    iapply (Transfers.MayWaits.elim (SemLoc.dma cc0_scratch4.sem)) $$ Hmw
  iintro ⟨HD, HsG, HO⟩
  ihave HD := (DB_all m d L fr) $$ HD
  icases HD with ⟨Hr, Hmem, Hk⟩
  simp -proj only [Prog.bind]
  sl_exec
  sl_step
  ihave Hhis := (Entails.of_eq (pointsTo_congr (his_of_copy (F := F) m d L _ _ rfl))) $$ Hhis
  isplitl [Hsrc Hdst Hmem Hhis]
  · isplitl [Hsrc]; · iapply (Entails.of_eq (pts_srcK (F := F) d L _)); iexact Hsrc
    isplitl [Hdst]; · iapply (Entails.of_eq (pts_dstK (F := F) d L _)); iexact Hdst
    isplitl [Hmem]; · iexact Hmem
    iapply (Entails.of_eq (pts_hisK (F := F) d L _)); iexact Hhis
  isplitl [Ha Hb Hk Hr Hbufs]
  · isplitl [Ha]; · iexists _; iexact Ha
    isplitl [Hb]; · iexists _; iexact Hb
    isplitl [Hk]; · iexists _; iexact Hk
    isplitl [Hr]; · iexists _; iexact Hr
    iexact Hbufs
  isplitl [Hs0 Hs1 Hs2 Hsems HsG]
  · isplitl [Hs0]; · iexact Hs0
    isplitl [Hs1]; · iexact Hs1
    isplitl [Hs2]; · iexact Hs2
    iapply (Entails.of_eq (restCells_G (F := F) d L).symm)
    isplitl [HsG]; · iexact HsG
    iexact Hsems
  iexists _; isplitr
  swap; · iexact HO
  ipureintro; intro p hp
  iterate 7 (rcases Finset.mem_insert.mp hp with hp | hp; · exact .inr (hp ▸ rfl))
  exact .inl hp

end Cert.Proof.TileRun
-- ==== Proof.TileObl.lean ====
module

public import proofs.«01_k».proof.Proof.TileRun

/-!
# The call's obligation at one tile

The task the launch gives a tile is the kernel's body at that tile's coordinates, which `TileRun` proves.
-/

@[expose] public section

noncomputable section

namespace Cert.Proof.TileObl

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Setup Cert.Proof.TileRun Cert.Proof.TilePieces

variable {F : FTy → Type} [FloatOps F]

local notation "𝕄" => MT nD τ sig (HIx 1) (Elt F) ℕ UU ℕ

variable (m : (ℓ : Loc nD τ sig) → Buf (Elt F) ℓ)

/-- The grid point of subcore `s` of SparseCore `c`. -/
def coordsV (c : Fin (grid0.bound 0)) (s : Fin (grid0.bound 1)) : grid0.Coords :=
  fun
  | 0 => c
  | 1 => s
  | ⟨_ + 2, h⟩ => absurd h (Nat.not_lt.2 (Nat.le_add_left _ _))

/-- What the program runs on a tile is the kernel's body there, over the four arrays and the tile's scratch. -/
theorem defs₀_vector (c : Fin τ.nSC) (s : Fin τ.nSub) :
    defs₀ (F := F) (.scVector c s) 0 () = SparseCore.onTile hcore0 hsub0 (fun c s => cc0__sc_gather_body (coordsV c s)
      srcV (Memref.isWhole_whole _) dstV (Memref.isWhole_whole _) memV (Memref.isWhole_whole _) hisV (Memref.isWhole_whole _)
      aV (Memref.isWhole_whole _) bV (Memref.isWhole_whole _) keyV (Memref.isWhole_whole _) rowV (Memref.isWhole_whole _)
      cc0_scratch4 cc0_scoped0 cc0_scoped1 cc0_scoped2) ⟨⟩ c s := rfl

/-- Waits recorded at no call are waits recorded at no call or at this one. -/
theorem obl_post {thr : Thread nD τ} {A B C : sProp 𝕄} {O : CellTallies nD τ sig (HIx 1)} {W : Waits sig (HIx 1)} {q : Fin 1} :
    iprop(A ∗ B ∗ C ∗ ∃ W' : Waits sig (HIx 1), ⌜∀ p ∈ W', p ∈ W ∨ p.2 = none⌝ ∗ owes thr O W')
      ⊢ iprop(A ∗ B ∗ C ∗ ∃ W' : Waits sig (HIx 1), ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right .inl
  iexact HO

set_option maxRecDepth 16384 in
/-- The call's obligation on its tiles. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d (coordsV ⟨_, hci.1⟩ ⟨_, hci.2⟩) hF O W hO).trans (wp_mono frame _ _ fun _ => obl_post)

end Cert.Proof.TileObl

end
-- ==== Proof.MlpBody.lean ====
module

public import proofs.«01_k».proof.Proof.Setup
public import Idealize.ShloMosaic.Lib.Pipeline.FrameBody
public import Idealize.ShloMosaic.Lib.Pipeline.RegionArraysS

/-!
# One grid point of the dense kernel

The kernel body reads its nine blocks and writes the tenth; the pipeline's proof data over any contents `V` of the
arrays when the region is entered, and the body's obligation at every grid point.
-/

@[expose] public section

set_option maxRecDepth 16384

noncomputable section

namespace Cert.Proof.MlpBody

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Setup

variable {F : FTy → Type} [FloatOps F]

local notation "𝕄" => MT nD τ sig (HIx 1) (Elt F) ℕ UU ℕ
local notation "Big" => Vec F S2048x128 EltTy.f32
local notation "Wt" => Vec F S128x128 EltTy.f32
local notation "Row" => Vec F S1x128 EltTy.f32

variable (V : Dev nD → Valuation τ sig (Elt F))

abbrev bigR : Rect S2048x128 := Rect.unit (s := S2048x128) ![0, 0] S2048x128.size inb_S2048x128_S2048x128_0_0
abbrev wtR : Rect S128x128 := Rect.unit (s := S128x128) ![0, 0] S128x128.size inb_S128x128_S128x128_0_0
abbrev rowR : Rect S1x128 := Rect.unit (s := S1x128) ![0, 0] S1x128.size inb_S1x128_S1x128_0_0

/-- What the body leaves in the result's staging buffer, from the nine blocks it reads. -/
def outBlk (x0 x1 x2 : Big) (x3 x4 x5 x6 : Wt) (x7 x8 : Row) : Big :=
  View.canon [⟨bigR, k1_pay1 (View.ld x0 bigR) (View.ld x3 wtR) (View.ld x1 bigR) (View.ld x4 wtR) (View.ld x7 rowR)
    (View.ld x5 wtR) (View.ld x2 bigR) (View.ld x6 wtR) (View.ld x8 rowR)⟩]

/-- The one store covers the whole buffer. -/
theorem store_covers (v : Big) (y : S2048x128.Idx) : ∃ pc ∈ ([⟨bigR, v⟩] : List (View.Piece (Elt F) S2048x128 .f32)), y ∈ pc.1.set :=
  View.cover_of_tiled [⟨bigR, v⟩] S2048x128.size (by rfl) y

set_option maxHeartbeats 1000000 in
/-- The body on whole buffers: the nine inputs are left as they were, the tenth holds `outBlk` of them. -/
theorem body_runs (c : Dev nD) (i : grid1.Coords)
    (a0 : Memref sig .tc .vmem S2048x128 .f32) (h0 : a0.IsWhole) (a1 : Memref sig .tc .vmem S2048x128 .f32) (h1 : a1.IsWhole)
    (a2 : Memref sig .tc .vmem S2048x128 .f32) (h2 : a2.IsWhole) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (a6 : Memref sig .tc .vmem S128x128 .f32) (h6 : a6.IsWhole) (a7 : Memref sig .tc .vmem S1x128 .f32) (h7 : a7.IsWhole)
    (a8 : Memref sig .tc .vmem S1x128 .f32) (h8 : a8.IsWhole) (a9 : Memref sig .tc .vmem S2048x128 .f32) (h9 : a9.IsWhole)
    (x0 x1 x2 : Big) (x3 x4 x5 x6 : Wt) (x7 x8 : Row) (Q : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ d, owns (c : Thread nD τ) a9 fullShare d)
        ∗ ((owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare (outBlk x0 x1 x2 x3 x4 x5 x6 x7 x8)) -∗ Q ⟨⟩))
      ⊢ wp frame (wpE (defs₀ (F := F)) 𝒱₀ c none) Set.univ
          (cc1__mlp_body i a0 h0 a1 h1 a2 h2 a3 h3 a4 h4 a5 h5 a6 h6 a7 h7 a8 h8 a9 h9) Q := by
  rw [cc1__mlp_body_eq_skeleton]; unfold cc1__mlp_body_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%_, %f9, -, H9⟩, Hk⟩
  subst e0 e1 e2 e3 e4 e5 e6 e7 e8
  sl_exec
  sl_step
  iapply Hk
  isplitl [H0]; · iexists f0; isplitr [H0]; (ipureintro; rfl); iexact H0
  isplitl [H1]; · iexists f1; isplitr [H1]; (ipureintro; rfl); iexact H1
  isplitl [H2]; · iexists f2; isplitr [H2]; (ipureintro; rfl); iexact H2
  isplitl [H3]; · iexists f3; isplitr [H3]; (ipureintro; rfl); iexact H3
  isplitl [H4]; · iexists f4; isplitr [H4]; (ipureintro; rfl); iexact H4
  isplitl [H5]; · iexists f5; isplitr [H5]; (ipureintro; rfl); iexact H5
  isplitl [H6]; · iexists f6; isplitr [H6]; (ipureintro; rfl); iexact H6
  isplitl [H7]; · iexists f7; isplitr [H7]; (ipureintro; rfl); iexact H7
  isplitl [H8]; · iexists f8; isplitr [H8]; (ipureintro; rfl); iexact H8
  iexists _; isplitr
  swap; · iexact H9
  ipureintro
  exact View.read_writes_eq_canon _ _ _ (store_covers _)

/-! ## The proof data -/

/-- Window `w`'s block at point `t`, of its array's contents when the region is entered. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The result's block at point `t`. -/
def outAt (c : Dev nD) (t : Fin cfg1.N) : Big :=
  outBlk (blk V c 0 t) (blk V c 1 t) (blk V c 2 t) (blk V c 3 t) (blk V c 4 t) (blk V c 5 t) (blk V c 6 t) (blk V c 7 t) (blk V c 8 t)

/-- The pipeline's proof data: every input's buffer is left at its block, the result's at `outAt`; nothing is owed. -/
def dats (_ : Fin 1) (c : Dev nD) : Dat τ (Elt F) (HIx 1) ℕ UU ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => outAt V c t
  Φ _ := iprop(emp)
  q _ := fullShare
  owed _ := 0

/-- The proof data's arrays are the contents at entry. -/
theorem dats_A (c : Dev nD) (w : Fin cfg1.W) : (dats V 0 c).A w = V c (Proc.devRef .tc (Pipeline.arrRef spec1 w)) := by
  dsimp only [dats]

/-- The result window is left at the result's block. -/
theorem after_out (c : Dev nD) (t : Fin cfg1.N) : (dats V 0 c).after 9 t = outAt V c t := by dsimp only [dats]

/-- Each input window is left at its block. -/
theorem after_in (c : Dev nD) (t : Fin cfg1.N) :
    (dats V 0 c).after 0 t = blk V c 0 t ∧ (dats V 0 c).after 1 t = blk V c 1 t ∧ (dats V 0 c).after 2 t = blk V c 2 t
      ∧ (dats V 0 c).after 3 t = blk V c 3 t ∧ (dats V 0 c).after 4 t = blk V c 4 t ∧ (dats V 0 c).after 5 t = blk V c 5 t
      ∧ (dats V 0 c).after 6 t = blk V c 6 t ∧ (dats V 0 c).after 7 t = blk V c 7 t ∧ (dats V 0 c).after 8 t = blk V c 8 t := by
  refine ⟨?_, ?_, ?_, ?_, ?_, ?_, ?_, ?_, ?_⟩ <;> dsimp only [dats]

/-- An input window's buffer holds its block whenever the body is handed it. -/
theorem before_in (c : Dev nD) (w : Fin cfg1.W) (hw : (cfg1.win w).isOut = false) (hidle : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hafter : ∀ t, (cfg1.win w).cut (cfg1.grid.coords t) ((dats V 0 c).after w t) = blk V c w t) (t : Fin cfg1.N) (d) :
    (dats V 0 c).before w t d = (dats V 0 c).fetched w t d :=
  (dats V 0 c).before_in_eq_fetched w hw hidle hclip
    (fun t => by rw [hafter]; unfold Dat.blockOf blk; rw [dats_A]) t d

/-- Window 0 holds its block when the body starts. -/
theorem before0 (c : Dev nD) (t : Fin cfg1.N) (d) : (dats V 0 c).before 0 t d = blk V c 0 t :=
  (before_in V c 0 rfl (fun _ => rfl) (fun _ _ _ => rfl) (fun _ => by dsimp only [dats]) t d).trans (by unfold Dat.fetched Dat.blockOf blk; rw [dats_A]; rfl)
/-- Window 1 holds its block when the body starts. -/
theorem before1 (c : Dev nD) (t : Fin cfg1.N) (d) : (dats V 0 c).before 1 t d = blk V c 1 t :=
  (before_in V c 1 rfl (fun _ => rfl) (fun _ _ _ => rfl) (fun _ => by dsimp only [dats]) t d).trans (by unfold Dat.fetched Dat.blockOf blk; rw [dats_A]; rfl)
/-- Window 2 holds its block when the body starts. -/
theorem before2 (c : Dev nD) (t : Fin cfg1.N) (d) : (dats V 0 c).before 2 t d = blk V c 2 t :=
  (before_in V c 2 rfl (fun _ => rfl) (fun _ _ _ => rfl) (fun _ => by dsimp only [dats]) t d).trans (by unfold Dat.fetched Dat.blockOf blk; rw [dats_A]; rfl)
/-- Window 3 holds its block when the body starts. -/
theorem before3 (c : Dev nD) (t : Fin cfg1.N) (d) : (dats V 0 c).before 3 t d = blk V c 3 t :=
  (before_in V c 3 rfl (fun _ => rfl) (fun _ _ _ => rfl) (fun _ => by dsimp only [dats]) t d).trans (by unfold Dat.fetched Dat.blockOf blk; rw [dats_A]; rfl)
/-- Window 4 holds its block when the body starts. -/
theorem before4 (c : Dev nD) (t : Fin cfg1.N) (d) : (dats V 0 c).before 4 t d = blk V c 4 t :=
  (before_in V c 4 rfl (fun _ => rfl) (fun _ _ _ => rfl) (fun _ => by dsimp only [dats]) t d).trans (by unfold Dat.fetched Dat.blockOf blk; rw [dats_A]; rfl)
/-- Window 5 holds its block when the body starts. -/
theorem before5 (c : Dev nD) (t : Fin cfg1.N) (d) : (dats V 0 c).before 5 t d = blk V c 5 t :=
  (before_in V c 5 rfl (fun _ => rfl) (fun _ _ _ => rfl) (fun _ => by dsimp only [dats]) t d).trans (by unfold Dat.fetched Dat.blockOf blk; rw [dats_A]; rfl)
/-- Window 6 holds its block when the body starts. -/
theorem before6 (c : Dev nD) (t : Fin cfg1.N) (d) : (dats V 0 c).before 6 t d = blk V c 6 t :=
  (before_in V c 6 rfl (fun _ => rfl) (fun _ _ _ => rfl) (fun _ => by dsimp only [dats]) t d).trans (by unfold Dat.fetched Dat.blockOf blk; rw [dats_A]; rfl)
/-- Window 7 holds its block when the body starts. -/
theorem before7 (c : Dev nD) (t : Fin cfg1.N) (d) : (dats V 0 c).before 7 t d = blk V c 7 t :=
  (before_in V c 7 rfl (fun _ => rfl) (fun _ _ _ => rfl) (fun _ => by dsimp only [dats]) t d).trans (by unfold Dat.fetched Dat.blockOf blk; rw [dats_A]; rfl)
/-- Window 8 holds its block when the body starts. -/
theorem before8 (c : Dev nD) (t : Fin cfg1.N) (d) : (dats V 0 c).before 8 t d = blk V c 8 t :=
  (before_in V c 8 rfl (fun _ => rfl) (fun _ _ _ => rfl) (fun _ => by dsimp only [dats]) t d).trans (by unfold Dat.fetched Dat.blockOf blk; rw [dats_A]; rfl)

/-! ## The body's obligation -/

/-- The body at point `t`, with what the pipeline hands it spelt out window by window. -/
theorem body_at (c : Dev nD) (t : Fin cfg1.N) :
    iprop((dats V 0 c).Φ t.castSucc ∗ (dats V 0 c).owesAt (none : HIx 1) t.castSucc
        ∗ (∃ d, owns (c : Thread nD τ) (st1_0 t) fullShare ((dats V 0 c).before 0 t d))
        ∗ (∃ d, owns (c : Thread nD τ) (st1_1 t) fullShare ((dats V 0 c).before 1 t d))
        ∗ (∃ d, owns (c : Thread nD τ) (st1_2 t) fullShare ((dats V 0 c).before 2 t d))
        ∗ (∃ d, owns (c : Thread nD τ) (st1_3 t) fullShare ((dats V 0 c).before 3 t d))
        ∗ (∃ d, owns (c : Thread nD τ) (st1_4 t) fullShare ((dats V 0 c).before 4 t d))
        ∗ (∃ d, owns (c : Thread nD τ) (st1_5 t) fullShare ((dats V 0 c).before 5 t d))
        ∗ (∃ d, owns (c : Thread nD τ) (st1_6 t) fullShare ((dats V 0 c).before 6 t d))
        ∗ (∃ d, owns (c : Thread nD τ) (st1_7 t) fullShare ((dats V 0 c).before 7 t d))
        ∗ (∃ d, owns (c : Thread nD τ) (st1_8 t) fullShare ((dats V 0 c).before 8 t d))
        ∗ (∃ d, owns (c : Thread nD τ) (st1_9 t) fullShare ((dats V 0 c).before 9 t d)))
      ⊢ wp frame (wpE (defs₀ (F := F)) 𝒱₀ c none) Set.univ (bodyAt1 t) fun _ => iprop((dats V 0 c).Φ t.succ ∗ (dats V 0 c).owesAt (none : HIx 1) t.succ
        ∗ owns (c : Thread nD τ) (st1_0 t) fullShare ((dats V 0 c).after 0 t) ∗ owns (c : Thread nD τ) (st1_1 t) fullShare ((dats V 0 c).after 1 t)
        ∗ owns (c : Thread nD τ) (st1_2 t) fullShare ((dats V 0 c).after 2 t) ∗ owns (c : Thread nD τ) (st1_3 t) fullShare ((dats V 0 c).after 3 t)
        ∗ owns (c : Thread nD τ) (st1_4 t) fullShare ((dats V 0 c).after 4 t) ∗ owns (c : Thread nD τ) (st1_5 t) fullShare ((dats V 0 c).after 5 t)
        ∗ owns (c : Thread nD τ) (st1_6 t) fullShare ((dats V 0 c).after 6 t) ∗ owns (c : Thread nD τ) (st1_7 t) fullShare ((dats V 0 c).after 7 t)
        ∗ owns (c : Thread nD τ) (st1_8 t) fullShare ((dats V 0 c).after 8 t) ∗ owns (c : Thread nD τ) (st1_9 t) fullShare ((dats V 0 c).after 9 t)) := by
  obtain ⟨e0, e1, e2, e3, e4, e5, e6, e7, e8⟩ := after_in V c t
  rw [show (dats V 0 c).Φ t.succ = (dats V 0 c).Φ t.castSucc from rfl,
    show (dats V 0 c).owesAt (none : HIx 1) t.succ = (dats V 0 c).owesAt (none : HIx 1) t.castSucc from rfl,
    e0, e1, e2, e3, e4, e5, e6, e7, e8, after_out]
  unfold bodyAt1 outAt
  simp only [before0, before1, before2, before3, before4, before5, before6, before7, before8]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c (grid1.coords t) _ _ _ _ _ _ _ _ _ _ _ _ _ _ _ _ _ _ _ _ (blk V c 0 t) (blk V c 1 t) (blk V c 2 t) (blk V c 3 t)
    (blk V c 4 t) (blk V c 5 t) (blk V c 6 t) (blk V c 7 t) (blk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro H
  isplitl [HΦ]; · iexact HΦ
  isplitl [HO]; · iexact HO
  iexact H

/-- What the program runs at a grid point is the body there. -/
theorem body_row (t : Fin cfg1.N) : defs₀ (F := F) .tc cfg1.body (cfg1.bodyArgs t (cfg1.slots t)) = bodyAt1 t := rfl

/-- The body's obligation at every grid point. -/
theorem body_obligation (c : Dev nD) : BodyObligation (dats V 0 c) (defs₀ (F := F)) 𝒱₀ (none : HIx 1) Set.univ := fun t => by
  rw [bigSep_W1, bigSep_W1, body_row]
  exact triple_restated (body_at V c t) rfl .rfl fun _ => .rfl

end Cert.Proof.MlpBody

end
-- ==== Proof.MlpRegion.lean ====
module

public import proofs.«01_k».proof.Proof.MlpBody

/-!
# The dense kernel's region

The pipeline as one step of @main: entered with every unscoped buffer held at `V`, left with the result's array at what
the pipeline's write-backs make of it and every other buffer unchanged.
-/

@[expose] public section

set_option maxRecDepth 16384

noncomputable section

namespace Cert.Proof.MlpRegion

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.Proof.Setup Cert.Proof.MlpBody

variable {F : FTy → Type} [FloatOps F]

local notation "𝕄" => MT nD τ sig (HIx 1) (Elt F) ℕ UU ℕ

variable (V : Dev nD → Valuation τ sig (Elt F))

/-- The one pipeline prefetches nothing. -/
abbrev adm : (p : Fin 1) → (pcfgs (F := F) p).Adm := fun p => (cfgs p).toPCfg_adm

/-- The proof data of every pipeline of the program. -/
abbrev pdats (p : Fin 1) (c : Dev nD) : Dat τ (Elt F) (HIx 1) ℕ UU ℕ (Pipeline.pin (pcfgs (F := F)) adm p) c :=
  dats V p c

/-- The region's waits are on staging cells, at no call's index: level 0, and nothing is owed. -/
theorem cut : Pipeline.LevelCut (pcfgs (F := F)) adm (none : HIx 1) (K (F := F)).L (K (F := F)).lev 0 (0 : Dev nD → CellTallies nD τ sig (HIx 1)) (fun _ => 0) where
  hι _ _ _ := Finset.mem_univ _
  hιb _ _ _ := le_of_eq (SparseCore.Cfg.lev_none ..)
  hD _ _ _ h := absurd h (lt_irrefl _)

/-- The kernel's arrays are unscoped buffers. -/
theorem arrs_sub : Pipeline.arrRefs spec1 ⊆ ucRefs τ sig := by decide

/-- No scoped buffer of the core is left over by the windows. -/
theorem rest_out (c : Dev nD) : (iprop(emp) : sProp 𝕄) ⊢ iprop(Pipeline.scopedRest spec1 c ∗ emp) := by
  rw [scopedRest1_eq]; iintro _; isplitr <;> iempintro

/-- The region's record. -/
def seg : Pipeline.RegionSeg (pcfgs (F := F)) adm (pdats V) (none : HIx 1) defs₀ 𝒱₀ (K (F := F)).L (K (F := F)).lev 0 :=
  Pipeline.RegionSeg.ofHeldIn (pcfgs (F := F)) adm (pdats V) none defs₀ 𝒱₀ (K (F := F)).L (K (F := F)).lev 0 0 (ucRefs τ sig)
    (fun _ => iprop(emp)) (fun _ => iprop(emp)) launch1.toP rfl
    (fun c => (body_obligation V c).loose) (fun _ _ => rfl) (fun _ => rfl) (fun c => (dats V 0 c).share_full fun _ => rfl)
    (fun _ => sep_elim_right) rest_out
    (fun _ => 0) cut (fun _ => iprop(emp)) V (fun c w => dats_A V c w)

/-- What the region leaves in the buffers. -/
abbrev left (d : Dev nD) : Valuation τ sig (Elt F) := Pipeline.afterRegion (pdats V 0 d) (V d)

/-- What the region is entered with. -/
theorem seg_pre (d : Dev nD) :
    iprop(StableHlo.held (d.tc : Thread nD τ) (ucRefs τ sig) (V d) ∗ ((∃ W, owes (d : Thread nD τ) 0 W) ∗ emp ∗ emp)) ⊢ (seg V).pre d := by
  have h := Pipeline.RegionSeg.ofHeldIn_pre (pcs := pcfgs (F := F)) (a := adm) (pdats := pdats V) (ι := (none : HIx 1)) (defs₀ := defs₀ (F := F)) (𝒱₀ := 𝒱₀)
    (L := (K (F := F)).L) (lv := (K (F := F)).lev) (p := 0) (D := 0) (S := ucRefs τ sig) (X := fun _ => iprop(emp)) (Y := fun _ => iprop(emp))
    (kit := launch1.toP) (hK := rfl) (hbody := fun c => (body_obligation V c).loose) (howed := fun _ _ => rfl)
    (hrec := fun _ => rfl) (hshare := fun c => (dats V 0 c).share_full fun _ => rfl) (R := fun _ => iprop(emp)) (W := V) (b := fun _ => 0)
    (hcut := cut) (hW := fun c w => dats_A V c w) (hin := fun _ => sep_elim_right) (hout := rest_out)
    arrs_sub d
  exact h

/-- What it is left with. -/
theorem seg_post (d : Dev nD) :
    (seg V).post d ⊢ iprop(StableHlo.held (d.tc : Thread nD τ) (ucRefs τ sig) (left V d) ∗ ((∃ W, owes (d : Thread nD τ) 0 W) ∗ emp ∗ emp)) := by
  have h := Pipeline.RegionSeg.ofHeldIn_post (pcs := pcfgs (F := F)) (a := adm) (pdats := pdats V) (ι := (none : HIx 1)) (defs₀ := defs₀ (F := F)) (𝒱₀ := 𝒱₀)
    (L := (K (F := F)).L) (lv := (K (F := F)).lev) (p := 0) (D := 0) (S := ucRefs τ sig) (X := fun _ => iprop(emp)) (Y := fun _ => iprop(emp))
    (kit := launch1.toP) (hK := rfl) (hbody := fun c => (body_obligation V c).loose) (howed := fun _ _ => rfl)
    (hrec := fun _ => rfl) (hshare := fun c => (dats V 0 c).share_full fun _ => rfl) (R := fun _ => iprop(emp)) (W := V) (b := fun _ => 0)
    (hcut := cut) (hW := fun c w => dats_A V c w) (hin := fun _ => sep_elim_right) (hout := rest_out)
    arrs_sub d
  exact h

/-- The region as a step: from the boundary and the buffers at `V`, to the boundary and the buffers as the region
    leaves them, whatever it has waited on. -/
theorem region_step [∀ e, Nonempty (Elt F e)] (d : Dev nD) {α : Type}
    (k : PUnit → Prog (TpuEff nD τ sig (Elt F) (ΛP (F := F)) .tc) α) (Q : α → sProp 𝕄) :
    iprop((iprop(boundary (d.tc : Thread nD τ) ∗ StableHlo.held (d.tc : Thread nD τ) (ucRefs τ sig) (left V d) ∗ ∃ W, owes (d : Thread nD τ) 0 W)
          -∗ wp frame (wpE (D (F := F)) 𝒱 (d.tc : Thread nD τ) none) Set.univ (k ⟨⟩) Q)
        ∗ boundary (d.tc : Thread nD τ) ∗ StableHlo.held (d.tc : Thread nD τ) (ucRefs τ sig) (V d) ∗ (∃ W, owes (d : Thread nD τ) 0 W)
        ∗ levAts (K (F := F)).L (K (F := F)).lev
        ∗ Pipeline.cellsGhost cfgs EP 0 d ∗ Pipeline.toksInit cfgs EP 0 d)
      ⊢ wp frame (wpE (D (F := F)) 𝒱 (d.tc : Thread nD τ) none) Set.univ (.op (.customCall (Pipeline.entry 0) ()) k) Q := by
  have h := (Pipeline.RegionSeg.wp (pcfgs (F := F)) adm (pdats V) (none : HIx 1) cellOf_inj EP defs₀ 𝒱₀
    (K (F := F)).L (K (F := F)).lev (seg V) d none (fun _ h => nomatch h) k Q)
  refine BI.Entails.trans ?_ h
  clear h
  show (_ : sProp 𝕄) ⊢ (_ : sProp 𝕄)
  iintro ⟨Hk, Hb, Hh, HO, Hl, Hg, Ht⟩
  isplitl [Hk]
  · iintro ⟨Hb, Hp⟩
    ihave H := (seg_post V d) $$ Hp
    icases H with ⟨Hh, HO, -, -⟩
    iapply Hk
    isplitl [Hb]; · iexact Hb
    isplitl [Hh]; · iexact Hh
    iexact HO
  isplitl [Hb]; · iexact Hb
  isplitl [Hh HO]
  · iapply (seg_pre V d)
    isplitl [Hh]; · iexact Hh
    isplitl [HO]; · iexact HO
    isplitr <;> iempintro
  isplitl [Hl]; · iexact Hl
  isplitl [Hg]; · iexact Hg
  iexact Ht

end Cert.Proof.MlpRegion

end
-- ==== Proof.MainRun.lean ====
module

public import proofs.«01_k».proof.Proof.TileObl
public import proofs.«01_k».proof.Proof.MlpRegion

/-!
# The whole program's run

@main is the gather call, six host operations that cut the weights and lay out the biases, and the dense kernel's
region. From any launch memory the run ends with every unscoped buffer at the contents `fin` names.
-/

@[expose] public section

set_option maxRecDepth 16384

noncomputable section

namespace Cert.Proof.MainRun

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)
open Cert.Proof.Setup Cert.Proof.TileObl Cert.Proof.MlpBody Cert.Proof.MlpRegion

variable {F : FTy → Type}

local notation "𝕄" => MT nD τ sig (HIx 1) (Elt F) ℕ UU ℕ

variable (m : (ℓ : Loc nD τ sig) → Buf (Elt F) ℓ) (ρ : Dev nD → PrngReg)

/-! ## The launch's algebra -/

/-- The launch element: the call's handshakes and the region's staging cells, at their first rounds. -/
def u₀ : UU := (initOf (K (F := F)).hsCells (K (F := F)).hsToks,
  (initOf (Pipeline.cells cfgs cellOf_inj) (Pipeline.launchToks cfgs cellOf_inj), 1))

/-- What each device's @main is dealt: the staging cells' ghost state and tokens. -/
abbrev G (d : Dev nD) : sProp 𝕄 := iprop(Pipeline.cellsGhost cfgs EP 0 d ∗ Pipeline.toksInit cfgs EP 0 d)

/-- The launch element is worth the handshakes' part and every device's. -/
theorem u₀_deals : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost cfgs EP cellOf_inj) $$ HP with ⟨Hg, Ht⟩
  imodintro
  isplitl [HH]; · iexact HH
  isplitl [Hg Ht]
  · rw [bigSep_sep',
      show (bigSep Finset.univ fun d : Dev nD => (Pipeline.cellsGhost cfgs EP 0 d : sProp 𝕄))
        = bigSep Finset.univ fun d : Dev nD => bigSep Finset.univ fun p : Fin 1 => Pipeline.cellsGhost cfgs EP p d from
        bigSep_congr fun d _ => (bigSep_univ_of_subsingleton (Φ := fun p : Fin 1 => (Pipeline.cellsGhost cfgs EP p d : sProp 𝕄)) (0 : Fin 1)).symm,
      show (bigSep Finset.univ fun d : Dev nD => (Pipeline.toksInit cfgs EP 0 d : sProp 𝕄))
        = bigSep Finset.univ fun d : Dev nD => bigSep Finset.univ fun p : Fin 1 => Pipeline.toksInit cfgs EP p d from
        bigSep_congr fun d _ => (bigSep_univ_of_subsingleton (Φ := fun p : Fin 1 => (Pipeline.toksInit cfgs EP p d : sProp 𝕄)) (0 : Fin 1)).symm]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main in three steps -/

/-- The host operations between the call and the region: four halves of the weights, two biases as rows. -/
abbrev hostOps : List (HloOp τ sig (Elt F)) :=
  [ StableHlo.unary main_arg2 main_v1 ((extractStridedSlice S128x128 ![0, 0] · slices_S256x128_S128x128_0_0) : (⟨S256x128, .f32⟩ : BufTy).Contents (Elt F) → (⟨S128x128, .f32⟩ : BufTy).Contents (Elt F)),
    StableHlo.unary main_arg2 main_v2 ((extractStridedSlice S128x128 ![128, 0] · slices_S256x128_S128x128_128_0) : (⟨S256x128, .f32⟩ : BufTy).Contents (Elt F) → (⟨S128x128, .f32⟩ : BufTy).Contents (Elt F)),
    StableHlo.unary main_arg4 main_v3 ((extractStridedSlice S128x128 ![0, 0] · slices_S256x128_S128x128_0_0) : (⟨S256x128, .f32⟩ : BufTy).Contents (Elt F) → (⟨S128x128, .f32⟩ : BufTy).Contents (Elt F)),
    StableHlo.unary main_arg4 main_v4 ((extractStridedSlice S128x128 ![128, 0] · slices_S256x128_S128x128_128_0) : (⟨S256x128, .f32⟩ : BufTy).Contents (Elt F) → (⟨S128x128, .f32⟩ : BufTy).Contents (Elt F)),
    StableHlo.reshape main_arg3 main_v5 (rfl : (.f32 : EltTy) = .f32) shapeCasts_S128_S1x128,
    StableHlo.reshape main_arg5 main_v6 (rfl : (.f32 : EltTy) = .f32) shapeCasts_S128_S1x128 ]

/-- They touch unscoped TensorCore buffers only, and make none. -/
theorem hostOps_sub : ∀ op ∈ (hostOps : List (HloOp τ sig (Elt F))), op.bufs ⊆ ucRefs τ sig := by
  intro op h; simp only [List.mem_cons, List.not_mem_nil, or_false] at h
  rcases h with rfl | rfl | rfl | rfl | rfl | rfl <;> refine Pipeline.sub_ucRefs _ ?_ <;>
    first | exact StableHlo.unary_bufs_sub .. | exact StableHlo.reshape_bufs_sub ..
/-- The host operations create no buffer. -/
theorem hostOps_fresh : ∀ op ∈ (hostOps : List (HloOp τ sig (Elt F))), op.fresh = ∅ := by
  intro op h; simp only [List.mem_cons, List.not_mem_nil, or_false] at h
  rcases h with rfl | rfl | rfl | rfl | rfl | rfl <;> rfl

/-- @main is the call, the host operations, the region. -/
theorem main_steps [FloatOps F] (d : Dev nD) :
    main (F := F) d = (sc (F := F)).run d 0 >>= fun _ => StableHlo.seq hostOps >>= fun _ =>
      SparseCore.liftProg (.op (.customCall (Pipeline.entry 0) ()) .ret) := rfl

/-! ## The contents along the way -/

/-- The buffers at launch, -/
abbrev V0 (d : Dev nD) : Valuation τ sig (Elt F) := fun b => m (d, b)
/-- after the gather call, -/
def V1 (d : Dev nD) : Valuation τ sig (Elt F) := Function.update (V0 m d) (Proc.devRef .tc main_v0) (histOf m d)
/-- when the region is entered, -/
def V2 (d : Dev nD) : Valuation τ sig (Elt F) := StableHlo.after hostOps (V1 m d)
/-- and at the end. -/
def fin [FloatOps F] (d : Dev nD) : Valuation τ sig (Elt F) := left (V2 m) d

/-- The four arrays the call works on. -/
abbrev callRefs : Finset (DevRef τ sig) :=
  {Proc.devRef .tc main_arg7, Proc.devRef .tc main_arg8, Proc.devRef .tc main_arg6, Proc.devRef .tc main_v0}

/-- The call's buffers are among the launch's. -/
theorem callRefs_sub : callRefs ⊆ ucRefs τ sig := by decide

/-- Those four held are their four points-to. -/
theorem held_call (d : Dev nD) (W : Valuation τ sig (Elt F)) :
    (StableHlo.held (d.tc : Thread nD τ) callRefs W : sProp 𝕄)
      = iprop((srcLoc d ↦{fullShare} W (Proc.devRef .tc main_arg7)) ∗ (dstLoc d ↦{fullShare} W (Proc.devRef .tc main_arg8))
        ∗ (memLoc d ↦{fullShare} W (Proc.devRef .tc main_arg6)) ∗ hisLoc d ↦{fullShare} W (Proc.devRef .tc main_v0)) := by
  unfold StableHlo.held
  rw [SparseCore.bigSep_insert' (by decide), SparseCore.bigSep_insert' (by decide), SparseCore.bigSep_insert' (by decide), bigSep_singleton]

/-- The call changes one buffer. -/
theorem V1_other (d : Dev nD) (b : DevRef τ sig) (h : b ≠ Proc.devRef .tc main_v0) : V1 m d b = m (d, b) :=
  Function.update_of_ne h _ _

/-- After the call its result holds the gathered array. -/
theorem V1_hist (d : Dev nD) : V1 m d (Proc.devRef .tc main_v0) = histOf m d := Function.update_self ..

/-- What the call is handed is the four arrays as launched, -/
theorem st_eq [FloatOps F] (d : Dev nD) :
    (bigSep Finset.univ fun c : Fin ((K (F := F)).nCore 0) => (P m).st 0 d c) = (StableHlo.held (d.tc : Thread nD τ) callRefs (V0 m d) : sProp 𝕄) := by
  rw [held_call]
  exact (bigSep_tiles (F := F) fun w => goRes m d w).trans (arrays_tiles m d (m (hisLoc d))).symm

/-- and what it hands back is the same four with the gathered rows in the result. -/
theorem dn_eq [FloatOps F] (d : Dev nD) :
    (bigSep Finset.univ fun c : Fin ((K (F := F)).nCore 0) => (P m).dn 0 d c) = (StableHlo.held (d.tc : Thread nD τ) callRefs (V1 m d) : sProp 𝕄) := by
  rw [held_call, V1_hist, V1_other m d _ (by decide), V1_other m d _ (by decide), V1_other m d _ (by decide)]
  exact (bigSep_tiles (F := F) fun w => tdRes m d w).trans (arrays_tiles m d (histOf m d)).symm

/-- The buffers the call does not touch. -/
theorem rest_eq (d : Dev nD) :
    (StableHlo.held (d.tc : Thread nD τ) (ucRefs τ sig \ callRefs) (V0 m d) : sProp 𝕄)
      = StableHlo.held (d.tc : Thread nD τ) (ucRefs τ sig \ callRefs) (V1 m d) :=
  StableHlo.held_congr _ fun b hb => (V1_other m d b fun e => (Finset.mem_sdiff.mp hb).2 (by subst e; decide)).symm

/-- What @main ends with: every unscoped buffer at its final contents. -/
abbrev FIN [FloatOps F] (d : Dev nD) : sProp 𝕄 := StableHlo.held (d.tc : Thread nD τ) (ucRefs τ sig) (fin m d)

/-- Every wait the TensorCore may have recorded lies below the state after the call. -/
theorem waits_below (d : Dev nD) (W : Waits sig (HIx 1)) : (K (F := F)).WBelow (SparseCore.T d) W 8 := by
  rintro ⟨s, ι⟩ -
  match ι with
  | none => exact (SparseCore.Cfg.lev_none (K (F := F)) _).le.trans (Nat.zero_le _)
  | some q =>
    refine (SparseCore.Cfg.lev_some_le (K (F := F)) _ q).trans ?_
    have := q.isLt; omega

/-- After the call the TensorCore owes nothing. -/
theorem owes_none (d : Dev nD) : (K (F := F)).Otc (N := 1) d 1 = 0 :=
  Finset.sum_eq_zero fun q _ => if_neg (by have := q.isLt; omega)

/-- @main on a device's TensorCore. -/
theorem main_runs [FloatOps F] [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_steps, wp_bind, show (unscopedBufs d (fun b => m ((SparseCore.T d).loc b)) : sProp 𝕄)
      = StableHlo.held (d.tc : Thread nD τ) (ucRefs τ sig) (V0 m d) from Pipeline.unscopedBufs_held d (V0 m d),
    StableHlo.held_sub_split _ callRefs_sub, rest_eq]
  iintro ⟨#Hctx, Hst, ⟨Hb, ⟨Hc, Hr⟩, Hts, -⟩, Hg, Ht⟩
  iapply ((K (F := F)).wp_run (D (F := F)) 𝒱 (EH := EH) (P := P m) κ d 0) $$ [Hst Hc Hr Hb Hts Hg Ht]
  isplitr; · iexact Hctx
  isplitl [Hst]; · iexact Hst
  isplitl [Hc]; · rw [st_eq]; iexact Hc
  iintro ⟨Hst, Hc⟩
  ihave Hc := (Entails.of_eq (dn_eq m d)) $$ Hc
  ihave Hh := (Entails.of_eq (StableHlo.held_sub_split (d.tc : Thread nD τ) callRefs_sub (V1 m d)).symm) $$ [Hc Hr]
  · isplitl [Hc] <;> iassumption
  iapply (StableHlo.wp_seq 𝒱 none Set.univ d (ucRefs τ sig) _ hostOps hostOps_sub hostOps_fresh (V1 m d)) $$ [Hb Hh]
  · isplitl [Hb] <;> iassumption
  iintro ⟨Hb, Hh⟩
  iapply ((K (F := F)).wp_liftProg (D (F := F)) 𝒱 (SparseCore.T d) Set.univ none (.op (.customCall (Pipeline.entry 0) ()) .ret) _)
  unfold SparseCore.Cfg.tcSt
  icases Hst with ⟨⟨%W, %hW, HO⟩, Hat⟩
  iapply (region_step (V2 m) d .ret _)
  isplitl [Hat Hts]
  · iintro ⟨Hb, Hh, %W', HO⟩
    rw [wp_ret]; imodintro
    isplitl [HO Hat]
    · isplitl [HO]
      · iexists W'; isplitr; · ipureintro; exact waits_below d W'
        rw [show (K (F := F)).Otc (N := 1) d 1 = 0 from owes_none d]; iexact HO
      iexact Hat
    isplitl [Hh]; · iexact Hh
    isplitl [Hb] <;> iassumption
  isplitl [Hb]; · iexact Hb
  isplitl [Hh]; · iexact Hh
  isplitl [HO]; · iexists W; rw [← owes_none (F := F) d]; iexact HO
  isplitr; · iapply (SparseCore.Cfg.ctx_levAts κ); iexact Hctx
  isplitl [Hg] <;> iassumption

/-! ## The final memory -/

/-- The final memory on device `d`. -/
def atEnd [FloatOps F] (d : Dev nD) (s' : Phys nD τ sig (Elt F)) : Prop := ∀ b ∈ ucRefs τ sig, s'.mem.mem (d, b) = fin m d b

/-- Buffers held are what the machine's memory holds. -/
theorem end_reads [FloatOps F] (d : Dev nD) (s' : Phys nD τ sig (Elt F)) : iprop(FIN m d ∗ SI s') ⊢ (⌜atEnd m d s'⌝ : sProp 𝕄) := by
  have one (b : DevRef τ sig) (hb : b ∈ ucRefs τ sig) : iprop(FIN m d ∗ SI s') ⊢ (⌜s'.mem.mem (d, b) = fin m d b⌝ : sProp 𝕄) := by
    unfold FIN StableHlo.held
    rw [SparseCore.bigSep_erase' hb]
    iintro ⟨⟨Hb, -⟩, HSI⟩
    ihave H := (SI_pointsTo_agree (st := s') (ℓ := (d, b)) (I := Finset.univ) (q := fullShare) (f := fin m d b)) $$ [HSI Hb]
    · isplitl [HSI] <;> iassumption
    icases H with %h
    ipureintro; exact funext fun i => h i (Finset.mem_univ i)
  exact fun a ha b hb => one b hb a ha

/-- The run: every weakly fair execution ends, with every counter at zero and every unscoped buffer of every device at
    the contents `fin` names. -/
theorem run_main [FloatOps F] [∀ e, Nonempty (Elt F e)] :
    θ_run (Cert.KernelIdeal.defs (F := F)) (Cert.KernelIdeal.threads (F := F)) ⟨m, fun _ => 0, ρ⟩
      fun r => (∀ d : Dev nD, ∀ b ∈ ucRefs τ sig, r.2.mem (d, b) = fin m d b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (u₀_deals m)) (main_runs m ρ) (atEnd m) (end_reads m) _ (fun _ h hz => ⟨h, hz⟩)

end Cert.Proof.MainRun

end
-- ==== Proof.Ends.lean ====
module

public import proofs.«01_k».proof.Proof.MainRun

/-!
# What the run leaves in the arguments and the result

No step writes an argument, so each ends as launched; the result ends at what the region's write-backs make of it.
-/

@[expose] public section

set_option maxRecDepth 16384

noncomputable section

namespace Cert.Proof.Ends

open Cert.KernelIdeal Cert.KernelIdeal.Gen

open Idealize.ShloMosaic Idealize.ShloMosaic.TcCoe Idealize.SL.Sem
open Idealize.ShloMosaic.Pipeline (ucRefs)
open Cert.Proof.Setup Cert.Proof.MlpBody Cert.Proof.MlpRegion Cert.Proof.MainRun

variable {F : FTy → Type}

variable (m : (ℓ : Loc nD τ sig) → Buf (Elt F) ℓ) (ρ : Dev nD → PrngReg)

/-- No host operation writes a reference outside the six it names. -/
theorem V2_other (d : Dev nD) (r : Ref sig .tc) (h : r ∉ [main_v1, main_v2, main_v3, main_v4, main_v5, main_v6]) :
    V2 m d (Proc.devRef .tc r) = V1 m d (Proc.devRef .tc r) :=
  StableHlo.after_of_forall_not_mem _ _ (by
    simp only [List.mem_cons, List.not_mem_nil, or_false, not_or] at h
    obtain ⟨h1, h2, h3, h4, h5, h6⟩ := h
    intro op hop; simp only [List.mem_cons, List.not_mem_nil, or_false] at hop
    rcases hop with rfl | rfl | rfl | rfl | rfl | rfl <;>
      simp only [StableHlo.unary_writes, StableHlo.reshape_writes, Finset.mem_singleton] <;>
      exact StableHlo.devRef_ne_of_ne (by assumption))

/-- A buffer nothing writes holds at the region's entry what it held at launch. -/
theorem V2_arg (d : Dev nD) (r : Ref sig .tc) (h : r ∉ [main_v1, main_v2, main_v3, main_v4, main_v5, main_v6])
    (h0 : r ≠ main_v0) : V2 m d (Proc.devRef .tc r) = m (d, Proc.devRef .tc r) :=
  (V2_other m d r h).trans (V1_other m d _ (StableHlo.devRef_ne_of_ne h0))

variable [FloatOps F]

/-- Nor does the region write it, unless it is the result. -/
theorem fin_arg (d : Dev nD) (r : Ref sig .tc) (h : r ∉ [main_v1, main_v2, main_v3, main_v4, main_v5, main_v6])
    (h0 : r ≠ main_v0) (h7 : ∀ w, Pipeline.arrRef spec1 w = r → (cfg1.win w).isOut = false) :
    fin m d (Proc.devRef .tc r) = m (d, Proc.devRef .tc r) :=
  (Pipeline.afterRegion_keeps (dats (V2 m) 0 d) (V2 m d) winFacts1.arr_inj (dats_A (V2 m) d) r h7).trans (V2_arg m d r h h0)

/-- The result's array after the region. -/
def result (d : Dev nD) : Buf (Elt F) ((d.tc : Thread nD τ).loc main_v7) := (dats (V2 m) 0 d).arrAt 9 cfg1.N

/-- The end state's result array. -/
theorem fin_result (d : Dev nD) : fin m d (Proc.devRef .tc main_v7) = result m d :=
  Pipeline.afterRegion_arr (dats (V2 m) 0 d) (V2 m d) winFacts1.arr_inj 9

/-- The nine arguments of device `c` in the memory `μ` are as launched. -/
abbrev Kept (μ : (ℓ : Loc nD τ sig) → Buf (Elt F) ℓ) (c : Dev nD) : Prop :=
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)

/-- The run's end read at the arguments and the result. -/
theorem run_ends [∀ e, Nonempty (Elt F e)] :
    θ_run (Cert.KernelIdeal.defs (F := F)) (Cert.KernelIdeal.threads (F := F)) ⟨m, fun _ => 0, ρ⟩
      fun r => (∀ c : Dev nD, r.2.mem ((c.tc : Thread nD τ).loc main_v7) = result m c ∧ Kept m r.2.mem c) ∧ r.2.sem = fun _ => 0 :=
  (θ_run Cert.KernelIdeal.defs _ _).mono (fun r h => ⟨fun c => by
    have arg (b : Ref sig .tc) (hu : Proc.devRef .tc b ∈ ucRefs τ sig) (hb) (h0) (h7) := (h.1 c _ hu).trans (fin_arg m c b hb h0 h7)
    exact ⟨(h.1 c _ (by decide : Proc.devRef .tc main_v7 ∈ ucRefs τ sig)).trans (fin_result m c),
      arg main_arg0 (by decide) (by decide) (by decide) (by decide), arg main_arg1 (by decide) (by decide) (by decide) (by decide),
      arg main_arg2 (by decide) (by decide) (by decide) (by decide), arg main_arg3 (by decide) (by decide) (by decide) (by decide),
      arg main_arg4 (by decide) (by decide) (by decide) (by decide), arg main_arg5 (by decide) (by decide) (by decide) (by decide),
      arg main_arg6 (by decide) (by decide) (by decide) (by decide), arg main_arg7 (by decide) (by decide) (by decide) (by decide),
      arg main_arg8 (by decide) (by decide) (by decide) (by decide)⟩, h.2⟩) (run_main m ρ)

/-- The frame: the arguments are kept and every counter ends at zero. -/
theorem run_frame [∀ e, Nonempty (Elt F e)] :
    θ_run (Cert.KernelIdeal.defs (F := F)) (Cert.KernelIdeal.threads (F := F)) ⟨m, fun _ => 0, ρ⟩
      fun r => (∀ c : Dev nD, Kept m r.2.mem c) ∧ r.2.sem = fun _ => 0 :=
  (θ_run Cert.KernelIdeal.defs _ _).mono (fun _ h => ⟨fun c => (h.1 c).2, h.2⟩) (run_ends m ρ)

end Cert.Proof.Ends

end
-- ==== Proof.Frames.lean ====
module

public import proofs.«01_k».proof.Proof.Ends
public import proofs.«01_k».proof.Proof.Gen.Kernel
public import proofs.«01_k».proof.Proof.Gen.ReferenceIdeal.Run
public import proofs.«01_k».proof.Defs

/-!
# The frames

Each of the three programs terminates without fault and leaves its arguments and its semaphore counters as it found them.
-/

@[expose] public section

noncomputable section

namespace Cert.Proof.Frames

open Idealize.ShloMosaic Idealize.SL.Sem
open Cert.Proof.Ends

/-- The body tables of the kernel and of its ideal reading agree label by label. -/
theorem bodies_same {F : FTy → Type} [FloatOps F] : @Cert.Kernel.defs₀ F _ _ = @Cert.KernelIdeal.defs₀ F _ _ := by
  funext p ℓ a
  match p, ℓ, a with
  | .tc, 0, _ => rfl
  | .tc, 1, (t, s) => rfl
  | .scScalar _, 0, _ => rfl
  | .scScalar _, 1, _ => rfl
  | .scVector c s, 0, _ => rfl
  | .scVector _ _, 1, _ => rfl

/-- So do their whole tables. -/
theorem defs_same {F : FTy → Type} [FloatOps F] : @Cert.Kernel.defs F _ _ = @Cert.KernelIdeal.defs F _ _ := by
  unfold Cert.Kernel.defs
  rw [bodies_same]
  rfl

/-- The kernel with float operations opaque: it is the program of the run, text for text. -/
theorem frame_kernel : Cert.quiescent_Kernel := fun m ρ _ => by
  rw [defs_same]
  exact (θ_run Cert.KernelIdeal.defs _ _).mono (fun _ h => ⟨fun c => h.1 c, h.2⟩) (run_frame (F := Bits) m ρ)

/-- The kernel over the extended reals. -/
theorem frame_ideal : Cert.quiescent_KernelIdeal := fun m ρ _ => run_frame (F := Ideal) m ρ

/-- The reference: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof.Frames

end
-- ==== Proof.Rows.lean ====
module

public import Idealize.ShloMosaic.Lib.MatmulPlain

/-!
# The perceptron, row by row

One row of the result, over the extended reals, from one row of each of the three inputs. The weights come in halves.
-/

@[expose] public section

noncomputable section

namespace Cert.Proof.Rows

/-- A row of 128 numbers times column `j` of a matrix. -/
def dot (a : Fin 128 → EReal) (w : Fin 128 → Fin 128 → EReal) (j : Fin 128) : EReal := ∑ k : Fin 128, a k * w k j

/-- Entry `j` of the hidden layer: the two halves' products, the bias, and the positive part. -/
def hid (a b : Fin 128 → EReal) (w : Fin 256 → Fin 128 → EReal) (c : Fin 128 → EReal) (j : Fin 128) : EReal :=
  max (dot a (fun k => w (k.castAdd 128)) j + dot b (fun k => w (k.natAdd 128)) j + c j) 0

/-- Entry `j` of the result's row: the hidden layer and the gathered row against the second layer's halves, and its bias. -/
def out (a b h : Fin 128 → EReal) (w : Fin 256 → Fin 128 → EReal) (c : Fin 128 → EReal) (v : Fin 256 → Fin 128 → EReal)
    (e : Fin 128 → EReal) (j : Fin 128) : EReal :=
  dot (hid a b w c) (fun k => v (k.castAdd 128)) j + dot h (fun k => v (k.natAdd 128)) j + e j

/-- A row of 256 numbers times a column is the sum over its two halves. -/
theorem sum_halves (x : Fin 256 → EReal) (w : Fin 256 → Fin 128 → EReal) (j : Fin 128) :
    ∑ k : Fin 256, x k * w k j
      = dot (fun k => x (k.castAdd 128)) (fun k => w (k.castAdd 128)) j + dot (fun k => x (k.natAdd 128)) (fun k => w (k.natAdd 128)) j :=
  Fin.sum_univ_add (a := 128) (b := 128) fun k => x k * w k j

end Cert.Proof.Rows

end
-- ==== Proof.BlockValue.lean ====
module

public import proofs.«01_k».proof.Proof.MlpBody
public import proofs.«01_k».proof.Proof.Rows
public import Idealize.ShloMosaic.Lib.Pipeline.Value
public import Idealize.ShloMosaic.Lib.ValueIdx
public import Idealize.ShloMosaic.Lib.ValueLayout

/-!
# What one block of the perceptron holds

Over the extended reals, entry `(r, j)` of a block is the row formula at the block's row `r`.
-/

@[expose] public section

noncomputable section

namespace Cert.Proof.BlockValue

open Cert.KernelIdeal Cert.KernelIdeal.Gen

open Idealize.ShloMosaic Idealize.ShloMosaic.ValueIdx
open Cert.Proof.MlpBody

/-- The block's matrix product into zeros, read at an entry. -/
theorem product_apply (l : FVec Ideal S2048x128 .f32) (r : FVec Ideal S128x128 .f32) (i : Fin 2048) (j : Fin 128) :
    matmul dot_S2048x128_S128x128_S2048x128_1_0_0_1_n_n none l r (constant S2048x128 .f32 0x00000000#32) (ix2 i j)
      = Rows.dot (fun k => l (ix2 i k)) (fun k j => r (ix2 k j)) j :=
  (Ideal.matmul_plain_apply none l r _ i j).trans (by
    rw [constant_apply, Ideal.ofBits_zero_f32, zero_add]; rfl)

/-- A row vector laid along every row, read at an entry. -/
theorem bias_apply (v : FVec Ideal S1x128 .f32) (i : Fin 2048) (j : Fin 128) :
    broadcastTo S2048x128 v broadcasts_S1x128_S2048x128 (ix2 i j) = v (ix2 0 j) :=
  broadcastTo_1b_ab_apply ..

/-- The stored block at an entry, from whole loads. The two layers' halves are four matrices. -/
theorem pay_apply (x y h : FVec Ideal S2048x128 .f32) (wa wb va vb : FVec Ideal S128x128 .f32) (c e : FVec Ideal S1x128 .f32)
    (w v : Fin 256 → Fin 128 → EReal) (hwa : ∀ k j, wa (ix2 k j) = w (k.castAdd 128) j) (hwb : ∀ k j, wb (ix2 k j) = w (k.natAdd 128) j)
    (hva : ∀ k j, va (ix2 k j) = v (k.castAdd 128) j) (hvb : ∀ k j, vb (ix2 k j) = v (k.natAdd 128) j) (i : Fin 2048) (j : Fin 128) :
    k1_pay1 (F := Ideal) x wa y wb c va h vb e (ix2 i j)
      = Rows.out (fun k => x (ix2 i k)) (fun k => y (ix2 i k)) (fun k => h (ix2 i k)) w (fun j => c (ix2 0 j)) v (fun j => e (ix2 0 j)) j := by
  unfold k1_pay1
  simp only [shapeCast_self, addf_apply, product_apply, bias_apply, maximumf_apply]
  unfold Rows.out Rows.hid Rows.dot
  have z (p : S2048x128.Idx) : broadcast S2048x128 (FloatOps.ofBits (F := Ideal) .f32 0x00000000#32) p = (0 : EReal) := Ideal.ofBits_zero_f32
  simp only [hwa, hwb, hva, hvb, z]

end Cert.Proof.BlockValue

end
-- ==== Proof.ArrayValue.lean ====
module

public import proofs.«01_k».proof.Proof.BlockValue
public import proofs.«01_k».proof.Proof.Ends
public import Idealize.ShloMosaic.Lib.Pipeline.ValueKit

/-!
# What the result's array holds

Over the extended reals, row by row: the perceptron of the row of each of the three inputs, the third gathered.
-/

@[expose] public section

set_option maxRecDepth 16384

noncomputable section

namespace Cert.Proof.ArrayValue

open Cert.KernelIdeal Cert.KernelIdeal.Gen

open Idealize.ShloMosaic hiding ix1 ix2
open Idealize.ShloMosaic.TcCoe Idealize.ShloMosaic.ValueIdx
open Cert.Proof.Setup Cert.Proof.MlpBody Cert.Proof.MlpRegion Cert.Proof.MainRun Cert.Proof.Ends

/-- The perceptron over whole arrays. -/
def mlp (x y h : S16384x128.Idx → EReal) (w : S256x128.Idx → EReal) (c : S128.Idx → EReal) (v : S256x128.Idx → EReal)
    (e : S128.Idx → EReal) : S16384x128.Idx → EReal := fun p =>
  Rows.out (fun k => x (ix2 (p 0) k)) (fun k => y (ix2 (p 0) k)) (fun k => h (ix2 (p 0) k)) (fun k j => w (ix2 k j))
    (fun j => c (ix1 j)) (fun k j => v (ix2 k j)) (fun j => e (ix1 j)) (p 1)

/-! ## The windows' blocks -/

variable (V : Dev nD → Valuation τ sig (Elt Ideal))

/-- Where window 0's block sits at each step. -/
theorem idx0 : ∀ t : Fin cfg1.N, win1_0.index t = ![t.val, 0] := (by decide +kernel : ∀ t : Fin grid1.N, _)
/-- Where window 1's block sits at each step. -/
theorem idx1 : ∀ t : Fin cfg1.N, win1_1.index t = ![t.val, 0] := (by decide +kernel : ∀ t : Fin grid1.N, _)
/-- Where window 2's block sits at each step. -/
theorem idx2 : ∀ t : Fin cfg1.N, win1_2.index t = ![t.val, 0] := (by decide +kernel : ∀ t : Fin grid1.N, _)
/-- Where window 3's block sits at each step. -/
theorem idx3 : ∀ t : Fin cfg1.N, win1_3.index t = ![0, 0] := (by decide +kernel : ∀ t : Fin grid1.N, _)
/-- Where window 4's block sits at each step. -/
theorem idx4 : ∀ t : Fin cfg1.N, win1_4.index t = ![0, 0] := (by decide +kernel : ∀ t : Fin grid1.N, _)
/-- Where window 5's block sits at each step. -/
theorem idx5 : ∀ t : Fin cfg1.N, win1_5.index t = ![0, 0] := (by decide +kernel : ∀ t : Fin grid1.N, _)
/-- Where window 6's block sits at each step. -/
theorem idx6 : ∀ t : Fin cfg1.N, win1_6.index t = ![0, 0] := (by decide +kernel : ∀ t : Fin grid1.N, _)
/-- Where window 7's block sits at each step. -/
theorem idx7 : ∀ t : Fin cfg1.N, win1_7.index t = ![0, 0] := (by decide +kernel : ∀ t : Fin grid1.N, _)
/-- Where window 8's block sits at each step. -/
theorem idx8 : ∀ t : Fin cfg1.N, win1_8.index t = ![0, 0] := (by decide +kernel : ∀ t : Fin grid1.N, _)
/-- Where window 9's block sits at each step. -/
theorem idx9 : ∀ t : Fin cfg1.N, win1_9.index t = ![t.val, 0] := (by decide +kernel : ∀ t : Fin grid1.N, _)

/-- The result's blocks cover its array. -/
theorem cov9 : (cfg1.win 9).Covers := (by decide +kernel : win1_9.Covers)

/-- Input 0's block at a step, read at an entry: the array at the block's row. -/
theorem at0 (c : Dev nD) (t : Fin cfg1.N) (i : Fin 2048) (k : Fin 128) (r : Fin 16384) (hr : r.val = t.val * 2048 + i.val) :
    (blk V c 0 t : S2048x128.Idx → EReal) (ix2 i k) = (V c (Proc.devRef .tc main_arg0) : S16384x128.Idx → EReal) (ix2 r k) := by
  unfold blk
  blk_simp
  blk_ext [idx0 t]
  exact hr.symm

/-- Input 1's block at a step, read at an entry: the array at the block's row. -/
theorem at1 (c : Dev nD) (t : Fin cfg1.N) (i : Fin 2048) (k : Fin 128) (r : Fin 16384) (hr : r.val = t.val * 2048 + i.val) :
    (blk V c 1 t : S2048x128.Idx → EReal) (ix2 i k) = (V c (Proc.devRef .tc main_arg1) : S16384x128.Idx → EReal) (ix2 r k) := by
  unfold blk
  blk_simp
  blk_ext [idx1 t]
  exact hr.symm

/-- Input 2's block at a step, read at an entry: the array at the block's row. -/
theorem at2 (c : Dev nD) (t : Fin cfg1.N) (i : Fin 2048) (k : Fin 128) (r : Fin 16384) (hr : r.val = t.val * 2048 + i.val) :
    (blk V c 2 t : S2048x128.Idx → EReal) (ix2 i k) = (V c (Proc.devRef .tc main_v0) : S16384x128.Idx → EReal) (ix2 r k) := by
  unfold blk
  blk_simp
  blk_ext [idx2 t]
  exact hr.symm

/-- Input 3 at a step is its whole half matrix. -/
theorem at3 (c : Dev nD) (t : Fin cfg1.N) (i : Fin 128) (k : Fin 128) :
    (blk V c 3 t : S128x128.Idx → EReal) (ix2 i k) = (V c (Proc.devRef .tc main_v1) : S128x128.Idx → EReal) (ix2 i k) := by
  unfold blk
  blk_simp
  blk_ext [idx3 t]

/-- Input 4 at a step is its whole half matrix. -/
theorem at4 (c : Dev nD) (t : Fin cfg1.N) (i : Fin 128) (k : Fin 128) :
    (blk V c 4 t : S128x128.Idx → EReal) (ix2 i k) = (V c (Proc.devRef .tc main_v2) : S128x128.Idx → EReal) (ix2 i k) := by
  unfold blk
  blk_simp
  blk_ext [idx4 t]

/-- Input 5 at a step is its whole half matrix. -/
theorem at5 (c : Dev nD) (t : Fin cfg1.N) (i : Fin 128) (k : Fin 128) :
    (blk V c 5 t : S128x128.Idx → EReal) (ix2 i k) = (V c (Proc.devRef .tc main_v3) : S128x128.Idx → EReal) (ix2 i k) := by
  unfold blk
  blk_simp
  blk_ext [idx5 t]

/-- Input 6 at a step is its whole half matrix. -/
theorem at6 (c : Dev nD) (t : Fin cfg1.N) (i : Fin 128) (k : Fin 128) :
    (blk V c 6 t : S128x128.Idx → EReal) (ix2 i k) = (V c (Proc.devRef .tc main_v4) : S128x128.Idx → EReal) (ix2 i k) := by
  unfold blk
  blk_simp
  blk_ext [idx6 t]

/-- Input 7 at a step is its whole row vector. -/
theorem at7 (c : Dev nD) (t : Fin cfg1.N) (i : Fin 1) (k : Fin 128) :
    (blk V c 7 t : S1x128.Idx → EReal) (ix2 i k) = (V c (Proc.devRef .tc main_v5) : S1x128.Idx → EReal) (ix2 i k) := by
  unfold blk
  blk_simp
  blk_ext [idx7 t]

/-- Input 8 at a step is its whole row vector. -/
theorem at8 (c : Dev nD) (t : Fin cfg1.N) (i : Fin 1) (k : Fin 128) :
    (blk V c 8 t : S1x128.Idx → EReal) (ix2 i k) = (V c (Proc.devRef .tc main_v6) : S1x128.Idx → EReal) (ix2 i k) := by
  unfold blk
  blk_simp
  blk_ext [idx8 t]

/-! ## What the region is entered with -/

variable (m : (ℓ : Loc nD τ sig) → Buf (Elt Ideal) ℓ)

/-- The upper half of a matrix of 256 rows, read at an entry. -/
theorem upper_half (x : S256x128.Idx → EReal) (k j : Fin 128) :
    extractStridedSlice S128x128 ![0, 0] x slices_S256x128_S128x128_0_0 (ix2 k j) = x (ix2 (k.castAdd 128) j) :=
  congrArg x (funext fun a => Fin.ext (by
    match a with
    | ⟨0, _⟩ => exact Nat.zero_add _
    | ⟨1, _⟩ => exact Nat.zero_add _))

/-- The lower half. -/
theorem lower_half (x : S256x128.Idx → EReal) (k j : Fin 128) :
    extractStridedSlice S128x128 ![128, 0] x slices_S256x128_S128x128_128_0 (ix2 k j) = x (ix2 (k.natAdd 128) j) :=
  congrArg x (funext fun a => Fin.ext (by
    match a with
    | ⟨0, _⟩ => rfl
    | ⟨1, _⟩ => exact Nat.zero_add _))

/-- Host result 1 is the upper half of the first layer's matrix. -/
theorem v1_apply (d : Dev nD) (k j : Fin 128) : (V2 m d (Proc.devRef .tc main_v1) : S128x128.Idx → EReal) (ix2 k j)
    = (m ((d.tc : Thread nD τ).loc main_arg2) : S256x128.Idx → EReal) (ix2 (k.castAdd 128) j) := by
  unfold V2 hostOps
  after_results_simp
  rw [V1_other m d _ (StableHlo.devRef_ne_of_ne (by decide))]
  exact upper_half (m ((d.tc : Thread nD τ).loc main_arg2)) k j

/-- Host result 2 is the lower half of the first layer's matrix. -/
theorem v2_apply (d : Dev nD) (k j : Fin 128) : (V2 m d (Proc.devRef .tc main_v2) : S128x128.Idx → EReal) (ix2 k j)
    = (m ((d.tc : Thread nD τ).loc main_arg2) : S256x128.Idx → EReal) (ix2 (k.natAdd 128) j) := by
  unfold V2 hostOps
  after_results_simp
  rw [V1_other m d _ (StableHlo.devRef_ne_of_ne (by decide))]
  exact lower_half (m ((d.tc : Thread nD τ).loc main_arg2)) k j

/-- Host result 3 is the upper half of the second layer's matrix. -/
theorem v3_apply (d : Dev nD) (k j : Fin 128) : (V2 m d (Proc.devRef .tc main_v3) : S128x128.Idx → EReal) (ix2 k j)
    = (m ((d.tc : Thread nD τ).loc main_arg4) : S256x128.Idx → EReal) (ix2 (k.castAdd 128) j) := by
  unfold V2 hostOps
  after_results_simp
  rw [V1_other m d _ (StableHlo.devRef_ne_of_ne (by decide))]
  exact upper_half (m ((d.tc : Thread nD τ).loc main_arg4)) k j

/-- Host result 4 is the lower half of the second layer's matrix. -/
theorem v4_apply (d : Dev nD) (k j : Fin 128) : (V2 m d (Proc.devRef .tc main_v4) : S128x128.Idx → EReal) (ix2 k j)
    = (m ((d.tc : Thread nD τ).loc main_arg4) : S256x128.Idx → EReal) (ix2 (k.natAdd 128) j) := by
  unfold V2 hostOps
  after_results_simp
  rw [V1_other m d _ (StableHlo.devRef_ne_of_ne (by decide))]
  exact lower_half (m ((d.tc : Thread nD τ).loc main_arg4)) k j

/-- Host result 5 is the first layer's bias as a row. -/
theorem v5_apply (d : Dev nD) (j : Fin 128) : (V2 m d (Proc.devRef .tc main_v5) : S1x128.Idx → EReal) (ix2 0 j)
    = (m ((d.tc : Thread nD τ).loc main_arg3) : S128.Idx → EReal) (ix1 j) := by
  unfold V2 hostOps
  after_results_simp
  rw [V1_other m d _ (StableHlo.devRef_ne_of_ne (by decide))]
  exact shapeCast_a_1a_apply (m ((d.tc : Thread nD τ).loc main_arg3) : S128.Idx → EReal) _ 0 j

/-- Host result 6 is the second layer's bias as a row. -/
theorem v6_apply (d : Dev nD) (j : Fin 128) : (V2 m d (Proc.devRef .tc main_v6) : S1x128.Idx → EReal) (ix2 0 j)
    = (m ((d.tc : Thread nD τ).loc main_arg5) : S128.Idx → EReal) (ix1 j) := by
  unfold V2 hostOps
  after_results_simp
  rw [V1_other m d _ (StableHlo.devRef_ne_of_ne (by decide))]
  exact shapeCast_a_1a_apply (m ((d.tc : Thread nD τ).loc main_arg5) : S128.Idx → EReal) _ 0 j

/-- The host operations leave the gathered array. -/
theorem v0_eq (d : Dev nD) : V2 m d (Proc.devRef .tc main_v0) = histOf m d :=
  (V2_other m d main_v0 (by decide)).trans (V1_hist m d)

/-! ## The array -/

/-- What a block's body stores is its payload of the whole blocks. -/
theorem outBlk_eq (x0 x1 x2 : Vec Ideal S2048x128 .f32) (x3 x4 x5 x6 : Vec Ideal S128x128 .f32) (x7 x8 : Vec Ideal S1x128 .f32) :
    outBlk x0 x1 x2 x3 x4 x5 x6 x7 x8 = k1_pay1 x0 x3 x1 x4 x7 x5 x2 x6 x8 := by
  have z : (![0, 0] : Fin 2 → ℕ) = fun _ => 0 := by decide
  unfold outBlk
  rw [View.canon_unit_zero z]
  simp only [View.ld_unit_zero (S := S2048x128) z, View.ld_unit_zero (S := S128x128) z, View.ld_unit_zero (S := S1x128) z]

/-- The result: the perceptron of the arguments and of the gathered rows. -/
theorem result_eq (d : Dev nD) : result m d = mlp (m ((d.tc : Thread nD τ).loc main_arg0)) (m ((d.tc : Thread nD τ).loc main_arg1))
    (histOf m d) (m ((d.tc : Thread nD τ).loc main_arg2)) (m ((d.tc : Thread nD τ).loc main_arg3))
    (m ((d.tc : Thread nD τ).loc main_arg4)) (m ((d.tc : Thread nD τ).loc main_arg5)) := by
  unfold result
  refine (dats (V2 m) 0 d).arrAt_eq_of_covers 9 _ cov9 fun t _ y => ?_
  blk_simp
  rw [after_out]
  obtain ⟨i, j, rfl⟩ : ∃ (i : Fin 2048) (j : Fin 128), y = ix2 i j := ⟨y 0, y 1, by
    funext a
    match a with
    | ⟨0, _⟩ => rfl
    | ⟨1, _⟩ => rfl⟩
  have hb : t.val < 8 := t.isLt
  obtain ⟨r, hr⟩ : ∃ r : Fin 16384, r.val = t.val * 2048 + i.val := ⟨⟨t.val * 2048 + i.val, by omega⟩, rfl⟩
  have he : (win1_9.blk t).view.emb (ix2 i j) = (ix2 r j : S16384x128.Idx) := by
    blk_ext [idx9 t]
    exact hr.symm
  refine ((congrFun (outBlk_eq ..) (ix2 i j)).trans (BlockValue.pay_apply _ _ _ _ _ _ _ _ _
    (fun k j => (m ((d.tc : Thread nD τ).loc main_arg2) : S256x128.Idx → EReal) (ix2 k j))
    (fun k j => (m ((d.tc : Thread nD τ).loc main_arg4) : S256x128.Idx → EReal) (ix2 k j))
    (fun k j => (at3 (V2 m) d t k j).trans (v1_apply m d k j)) (fun k j => (at4 (V2 m) d t k j).trans (v2_apply m d k j))
    (fun k j => (at5 (V2 m) d t k j).trans (v3_apply m d k j)) (fun k j => (at6 (V2 m) d t k j).trans (v4_apply m d k j)) i j)).trans ?_
  refine Eq.trans ?_ (congrArg (mlp _ _ _ _ _ _ _) he.symm)
  have e0 (k : Fin 128) := (at0 (V2 m) d t i k r hr).trans (congrFun (V2_arg m d main_arg0 (by decide) (by decide)) _)
  have e1 (k : Fin 128) := (at1 (V2 m) d t i k r hr).trans (congrFun (V2_arg m d main_arg1 (by decide) (by decide)) _)
  have e2 (k : Fin 128) := (at2 (V2 m) d t i k r hr).trans (congrFun (v0_eq m d) _)
  have e7 (j : Fin 128) := (at7 (V2 m) d t 0 j).trans (v5_apply m d j)
  have e8 (j : Fin 128) := (at8 (V2 m) d t 0 j).trans (v6_apply m d j)
  exact congr (congr (congr (congr (congr (congr (congr (congrArg Rows.out (funext e0)) (funext e1)) (funext e2)) rfl) (funext e7)) rfl) (funext e8)) rfl

end Cert.Proof.ArrayValue

end
-- ==== Proof.RefKeys.lean ====
module

public import proofs.«01_k».proof.Proof.Keys
public import proofs.«01_k».proof.Proof.Gen.ReferenceIdeal.Run
public import Idealize.ShloMosaic.Lib.Routing.Ops
public import Idealize.ShloMosaic.Lib.ReduceAll

/-!
# The reference's gathered rows

The reference's key of a pair is the kernel's, and its row lookup, whose bounds every key meets, reads the key's row.
-/

@[expose] public section

set_option maxRecDepth 16384

noncomputable section

namespace Cert.Proof.RefKeys

open Cert.ReferenceIdeal Cert.ReferenceIdeal.Gen
open Idealize.ShloMosaic Idealize.ShloMosaic.ValueIdx
open Cert.Proof.Keys

/-- A number laid along the identifiers. -/
abbrev all (x : IVec S_ 32) : IVec S16384 32 := broadcastInDim S16384 ![] bcast_S_S16384 x

/-- The modulus as the reference computes it, guarded against zero. -/
def modulus : IVec S_ 32 :=
  select (cmpi .eq (id (constantI S_ 32 100000#32)) (constantI S_ 32 0#32)) (constantI S_ 32 1#32) (id (constantI S_ 32 100000#32))

/-- The guard does nothing: the modulus is not zero. -/
theorem modulus_eq : modulus = constantI S_ 32 100000#32 := by
  funext i
  show Scalar.select (IntOp.cmpi .eq 100000#32 0#32) 1#32 100000#32 = (100000#32 : BitVec 32)
  decide

/-- The remainder of the pairs' combined words. -/
def remainder (a b : IVec S16384 32) : IVec S16384 32 :=
  Host.remsi (addi (muli a (all (constantI S_ 32 31#32))) b) (all modulus)

/-- The keys: the remainder, moved up by the modulus where its sign is not the modulus's. -/
def keys (a b : IVec S16384 32) : IVec S16384 32 :=
  select (andi (cmpi .ne (cmpi .slt (remainder a b) (all (constantI S_ 32 0#32)))
        (broadcastInDim S16384 ![] bcast_S_S16384 (cmpi .slt modulus (constantI S_ 32 0#32))))
      (cmpi .ne (remainder a b) (all (constantI S_ 32 0#32))))
    (addi (remainder a b) (all modulus)) (remainder a b)

/-- For single bits, being different from zero is the exclusive or with zero. -/
theorem ne_zero_bit : ∀ p : BitVec 1, IntOp.cmpi .ne p 0#1 = IntOp.xori p 0#1 := by decide

/-- A key is the kernel's key of the pair. -/
theorem keys_apply (a b : IVec S16384 32) (i : Fin 16384) : keys a b (ix1 i) = keyOf (a (ix1 i)) (b (ix1 i)) := by
  unfold keys remainder
  rw [modulus_eq]
  refine Eq.trans ?_ (floorMod_lane .host (a (ix1 i) * 31#32 + b (ix1 i)))
  have hz : IntOp.cmpi .slt (100000#32 : BitVec 32) 0#32 = 0#1 := by decide
  rw [hz, ← ne_zero_bit, ← hz]
  rfl

/-! ## The lookup -/

/-- The row numbers: a negative key counts from the table's end. -/
def wrapped (k : IVec S16384 32) : IVec S16384x1 32 :=
  broadcastInDim S16384x1 ![0] bcast_S16384_S16384x1_0
    (select (cmpi .slt k (all (constantI S_ 32 0#32))) (addi k (all (constantI S_ 32 100000#32))) k)

/-- Where the row number is within the table. -/
def inside (k : IVec S16384 32) : IVec S16384 1 :=
  Host.reduce IntOp.andi
    (andi (cmpi .sge (wrapped k) (broadcastInDim S16384x1 ![] bcast_S_S16384x1 (constantI S_ 32 0#32)))
      (cmpi .sle (wrapped k) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

variable {F : FTy → Type} [FloatOps F]

/-- The lookup: the rows of the table, and no number where the row number is outside. -/
def lookup (tab : FVec F S100000x128 .f32) (k : IVec S16384 32) : FVec F S16384x128 .f32 :=
  select (broadcastInDim S16384x128 ![0] bcast_S16384_S16384x128_0 (inside k))
    (Host.gather gather_S100000x128_S16384x1_S16384x128_1_0_n_n_0_1_1128 tab (wrapped k))
    (broadcastInDim S16384x128 ![] bcast_S_S16384x128 (constant S_ .f32 0x7FC00000#32))

/-- A key below the table's length is its own row number. -/
theorem wrapped_apply (k : IVec S16384 32) (i : Fin 16384) (hk : (k (ix1 i)).toNat < 100000) (u : Fin 1) :
    wrapped k (ix2 i u) = k (ix1 i) := by
  have e : wrapped k (ix2 i u) = Scalar.select (IntOp.cmpi .slt (k (ix1 i)) 0#32) (IntOp.addi (k (ix1 i)) 100000#32) (k (ix1 i)) :=
    broadcastInDim_apply _ _ _ _ (ix1 i) (fun a => by match a with | ⟨0, _⟩ => rfl)
  rw [e]
  have : IntOp.cmpi .slt (k (ix1 i)) 0#32 = 0#1 := by
    have : (k (ix1 i)).slt 0#32 = false := by
      rw [BitVec.slt, decide_eq_false_iff_not, BitVec.toInt_eq_toNat_cond, if_pos (by omega)]
      simp
    simp [IntOp.cmpi, this]
  rw [this]; rfl

/-- With every key below the table's length, every row number is within it. -/
theorem inside_apply (k : IVec S16384 32) (hk : ∀ i : Fin 16384, (k (ix1 i)).toNat < 100000) (j : S16384.Idx) : inside k j = 1#1 := by
  refine Host.reduce_andi_one _ _ _ _ _ rfl fun p => ?_
  obtain ⟨i, u, rfl⟩ : ∃ (i : Fin 16384) (u : Fin 1), p = ix2 i u := ⟨p 0, p 1, by
    funext a
    match a with
    | ⟨0, _⟩ => rfl
    | ⟨1, _⟩ => rfl⟩
  show IntOp.andi (IntOp.cmpi .sge (wrapped k (ix2 i u)) 0#32) (IntOp.cmpi .sle (wrapped k (ix2 i u)) 99999#32) = 1#1
  rw [wrapped_apply k i (hk i) u]
  have h := hk i
  generalize k (ix1 i) = x at h
  have hx : x.toInt = (x.toNat : ℤ) := by rw [BitVec.toInt_eq_toNat_cond, if_pos (by omega)]
  have h1 : (0#32 : BitVec 32).sle x = true := by rw [BitVec.sle, decide_eq_true_iff, hx]; simp
  have h2 : x.sle 99999#32 = true := by rw [BitVec.sle, decide_eq_true_iff, hx]; simp; omega
  simp [IntOp.cmpi, IntOp.andi, h1, h2]

/-- Then the lookup reads each key's row. -/
theorem lookup_apply (tab : FVec F S100000x128 .f32) (k : IVec S16384 32) (hk : ∀ i : Fin 16384, (k (ix1 i)).toNat < 100000)
    (i : Fin 16384) (j : Fin 128) : lookup tab k (ix2 i j) = tab (ix2 ⟨(k (ix1 i)).toNat, hk i⟩ j) := by
  unfold lookup
  have sel (c : IVec S16384x128 1) (x y : FVec F S16384x128 .f32) (p : S16384x128.Idx) (h : c p = 1#1) : select c x y p = x p := by
    unfold select Scalar.select; rw [h]; rfl
  rw [sel]
  · refine Routing.gather_row _ rfl rfl rfl rfl rfl tab (wrapped k) i j ⟨(k (ix1 i)).toNat, hk i⟩ ?_ (by norm_num)
    rw [wrapped_apply k i (hk i), BitVec.ofNat_toNat, BitVec.setWidth_eq]
  · exact (broadcastInDim_apply _ _ _ _ (ix1 i) fun a => by match a with | ⟨0, _⟩ => rfl).trans (inside_apply k hk _)

end Cert.Proof.RefKeys

end
-- ==== Proof.RefValue.lean ====
module

public import proofs.«01_k».proof.Proof.RefKeys
public import proofs.«01_k».proof.Proof.Rows
public import Idealize.ShloMosaic.Lib.Pipeline.Value
public import Idealize.ShloMosaic.Lib.ValueIdx
public import Idealize.ShloMosaic.Lib.StackMember

/-!
# What the reference computes

Over the extended reals, each entry of the reference's result is the row formula at its row.
-/

@[expose] public section

set_option maxRecDepth 16384

noncomputable section

namespace Cert.Proof.RefValue

open Cert.ReferenceIdeal Cert.ReferenceIdeal.Gen
open Idealize.ShloMosaic Idealize.ShloMosaic.ValueIdx
open Cert.Proof.Keys Cert.Proof.RefKeys

/-- Two matrices side by side. -/
abbrev beside (a b : FVec Ideal S16384x128 .f32) : FVec Ideal S16384x256 .f32 :=
  concatenate S16384x256 1 [⟨S16384x128, a⟩, ⟨S16384x128, b⟩] concatenates_S16384x128_S16384x128_S16384x256_d1

/-- The left half of two matrices side by side. -/
theorem beside_left (a b : FVec Ideal S16384x128 .f32) (i : Fin 16384) (k : Fin 128) :
    beside a b (ix2 i (k.castAdd 128)) = a (ix2 i k) :=
  concatenate_pair_apply_left (1 : Fin S16384x256.rank) a b concatenates_S16384x128_S16384x128_S16384x256_d1 (ix2 i (k.castAdd 128)) rfl (ix2 i k) fun b => by
    match b with
    | ⟨0, _⟩ => rfl
    | ⟨1, _⟩ => rfl

/-- The right half of two matrices side by side. -/
theorem beside_right (a b : FVec Ideal S16384x128 .f32) (i : Fin 16384) (k : Fin 128) :
    beside a b (ix2 i (k.natAdd 128)) = b (ix2 i k) :=
  concatenate_pair_apply_right (1 : Fin S16384x256.rank) a b concatenates_S16384x128_S16384x128_S16384x256_d1 (ix2 i (k.natAdd 128)) rfl rfl (ix2 i k) (fun b hb => by
    match b with
    | ⟨0, _⟩ => rfl
    | ⟨1, _⟩ => exact absurd rfl hb) (Nat.add_comm _ _)

/-- A layer's product before its bias. -/
abbrev product (x : FVec Ideal S16384x256 .f32) (w : FVec Ideal S256x128 .f32) : FVec Ideal S16384x128 .f32 :=
  Host.dotGeneral dot_S16384x256_S256x128_S16384x128_1_0_0_1_n_n none x w

/-- Two matrices side by side times a matrix, read at an entry: the two halves' products. -/
theorem product_apply (a b : FVec Ideal S16384x128 .f32) (w : FVec Ideal S256x128 .f32) (i : Fin 16384) (j : Fin 128) :
    product (beside a b) w (ix2 i j)
      = Rows.dot (fun k => a (ix2 i k)) (fun k j => w (ix2 (k.castAdd 128) j)) j
        + Rows.dot (fun k => b (ix2 i k)) (fun k j => w (ix2 (k.natAdd 128) j)) j := by
  refine ((StackMember.dotGeneral_plain_apply none (beside a b) w i j).trans
    (Rows.sum_halves (fun k => beside a b (ix2 i k)) (fun k j => w (ix2 k j)) j)).trans ?_
  simp only [beside_left, beside_right]

/-- A bias laid along every row. -/
abbrev bias (c : FVec Ideal S128 .f32) : FVec Ideal S16384x128 .f32 :=
  broadcastInDim S16384x128 ![0, 1] bcast_S1x128_S16384x128_0_1 (broadcastInDim S1x128 ![1] bcast_S128_S1x128_1 c)

/-- A bias laid along every row, read at an entry. -/
theorem bias_apply (c : FVec Ideal S128 .f32) (i : Fin 16384) (j : Fin 128) : bias c (ix2 i j) = c (ix1 j) :=
  (broadcastInDim_apply _ _ _ _ (ix2 0 j) fun a => by
    match a with
    | ⟨0, _⟩ => rfl
    | ⟨1, _⟩ => rfl).trans (broadcastInDim_apply _ _ _ _ (ix1 j) fun a => by
    match a with
    | ⟨0, _⟩ => rfl)

/-- Zeros everywhere. -/
abbrev zeros : FVec Ideal S16384x128 .f32 :=
  broadcastInDim S16384x128 ![] bcast_S_S16384x128 (constant S_ .f32 0x00000000#32)

/-- The zeros, read at an entry. -/
theorem zeros_apply (p : S16384x128.Idx) : zeros p = (0 : EReal) := Ideal.ofBits_zero_f32

/-- The reference's hidden layer. -/
abbrev hidden (x y : FVec Ideal S16384x128 .f32) (w : FVec Ideal S256x128 .f32) (c : FVec Ideal S128 .f32) :
    FVec Ideal S16384x128 .f32 :=
  maximumf (addf (product (beside x y) w) (bias c)) zeros

/-- The reference's result from its inputs and the gathered rows. -/
abbrev whole (x y h : FVec Ideal S16384x128 .f32) (w : FVec Ideal S256x128 .f32) (c : FVec Ideal S128 .f32)
    (v : FVec Ideal S256x128 .f32) (e : FVec Ideal S128 .f32) : FVec Ideal S16384x128 .f32 :=
  addf (product (beside (hidden x y w c) h) v) (bias e)

/-- The hidden layer, read at an entry. -/
theorem hidden_apply (x y : FVec Ideal S16384x128 .f32) (w : FVec Ideal S256x128 .f32) (c : FVec Ideal S128 .f32)
    (i : Fin 16384) (j : Fin 128) :
    hidden x y w c (ix2 i j)
      = Rows.hid (fun k => x (ix2 i k)) (fun k => y (ix2 i k)) (fun k j => w (ix2 k j)) (fun j => c (ix1 j)) j := by
  refine (maximumf_apply _ _ _).trans ?_
  rw [addf_apply, product_apply, bias_apply, zeros_apply]
  rfl

/-- The reference's result, read at an entry. -/
theorem whole_apply (x y h : FVec Ideal S16384x128 .f32) (w : FVec Ideal S256x128 .f32) (c : FVec Ideal S128 .f32)
    (v : FVec Ideal S256x128 .f32) (e : FVec Ideal S128 .f32) (i : Fin 16384) (j : Fin 128) :
    whole x y h w c v e (ix2 i j)
      = Rows.out (fun k => x (ix2 i k)) (fun k => y (ix2 i k)) (fun k => h (ix2 i k)) (fun k j => w (ix2 k j)) (fun j => c (ix1 j))
        (fun k j => v (ix2 k j)) (fun j => e (ix1 j)) j := by
  refine (addf_apply _ _ _).trans ?_
  rw [product_apply, bias_apply]
  simp only [hidden_apply]
  rfl

variable (m : (ℓ : Loc nD τ sig) → Buf (Elt Ideal) ℓ)

/-- The reference's result buffer holds that formula of its arguments. -/
theorem res_eq (c : Dev nD) :
    Value.res_main_v15 m c
      = whole (m ((c.tc : Thread nD τ).loc main_arg0)) (m ((c.tc : Thread nD τ).loc main_arg1))
        (lookup (m ((c.tc : Thread nD τ).loc main_arg6))
          (keys (m ((c.tc : Thread nD τ).loc main_arg7)) (m ((c.tc : Thread nD τ).loc main_arg8))))
        (m ((c.tc : Thread nD τ).loc main_arg2)) (m ((c.tc : Thread nD τ).loc main_arg3))
        (m ((c.tc : Thread nD τ).loc main_arg4)) (m ((c.tc : Thread nD τ).loc main_arg5)) := by
  unfold Value.res_main_v15
  rfl

/-- The looked up row of an entry is the row its key names. -/
theorem rows_apply (tab : FVec Ideal S100000x128 .f32) (a b : IVec S16384 32) (i : Fin 16384) (j : Fin 128) :
    lookup tab (keys a b) (ix2 i j) = tab (ix2 ⟨(keyOf (a (ix1 i)) (b (ix1 i))).toNat, keyOf_lt _ _⟩ j) := by
  rw [lookup_apply tab (keys a b) (fun i => by rw [keys_apply]; exact keyOf_lt _ _) i j]
  exact congrArg (fun r => tab (ix2 r j)) (Fin.ext (congrArg BitVec.toNat (keys_apply a b i)))

end Cert.Proof.RefValue

end
-- ==== Proof.Equal.lean ====
module

public import proofs.«01_k».proof.Defs
public import proofs.«01_k».proof.Proof.Gen.KernelIdeal
public import proofs.«01_k».proof.Proof.Gen.ReferenceIdeal
public import proofs.«01_k».proof.Proof.ArrayValue
public import proofs.«01_k».proof.Proof.RefValue

/-!
# The kernel and the reference compute one array

Over the extended reals both results are the same formula of the arguments, row by row.
-/

@[expose] public section

noncomputable section

namespace Cert.Proof.Equal

open Idealize.ShloMosaic hiding ix1 ix2
open Idealize.ShloMosaic.ValueIdx
open Idealize.SL.Sem
open Cert.KernelIdeal Cert.KernelIdeal.Gen
open Cert.Proof.Setup Cert.Proof.Ends Cert.Proof.ArrayValue

/-- The reference's formula over its looked up rows is the kernel's over its gathered rows. -/
theorem whole_eq (x y : FVec Ideal S16384x128 .f32) (w : FVec Ideal S256x128 .f32) (c : FVec Ideal S128 .f32)
    (v : FVec Ideal S256x128 .f32) (e : FVec Ideal S128 .f32) (tab : FVec Ideal S100000x128 .f32) (a b : IVec S16384 32) :
    RefValue.whole x y (RefKeys.lookup tab (RefKeys.keys a b)) w c v e = mlp x y (hist (F := Ideal) a b tab) w c v e := by
  funext p
  obtain ⟨i, j, rfl⟩ : ∃ (i : Fin 16384) (j : Fin 128), p = ix2 i j := ⟨p 0, p 1, by
    funext a
    match a with
    | ⟨0, _⟩ => rfl
    | ⟨1, _⟩ => rfl⟩
  refine (RefValue.whole_apply ..).trans ?_
  exact congrArg (fun h => Rows.out (fun k => x (ix2 i k)) (fun k => y (ix2 i k)) h (fun k j => w (ix2 k j)) (fun j => c (ix1 j))
    (fun k j => v (ix2 k j)) (fun j => e (ix1 j)) j) (funext fun k => RefValue.rows_apply tab a b i k)

/-- The kernel and the reference leave equal results on equal arguments. -/
theorem algebraic : Cert.algebraic_KernelIdeal_ReferenceIdeal := by
  intro m g m' g' _ ha
  refine ⟨fun c => result m c, (θ_run Cert.KernelIdeal.defs _ _).mono (fun r h => h.1) (run_ends m g),
    (θ_run Cert.ReferenceIdeal.defs _ _).mono (fun r h c => ⟨(h c).1.trans ?_, (h c).2⟩) (Cert.ReferenceIdeal.Value.run m' g')⟩
  obtain ⟨h0, h1, h2, h3, h4, h5, h6, h7, h8⟩ := ha c
  rw [RefValue.res_eq, h0, h1, h2, h3, h4, h5, h6, h7, h8]
  exact (whole_eq ..).trans (result_eq m c).symm

end Cert.Proof.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

/-!
# The certificate

The frames (Proof/Frames.lean) and the equal results (Proof/Equal.lean); `preserves` has nothing to show, as no rule was applied.
-/

@[expose] public section

noncomputable section

namespace Cert.Proof

/-- Everything that the statement claims. -/
theorem claim : Cert.Claim := ⟨Cert.Kernel.Gen.facts, Cert.KernelIdeal.Gen.facts, Cert.ReferenceIdeal.Gen.facts,
  Frames.frame_kernel, Frames.frame_ideal, Frames.frame_reference, trivial, Equal.algebraic⟩

end Cert.Proof

end
